-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x2560 : Shape := ⟨3, ![2, 128, 2560]⟩
abbrev S2560x10240 : Shape := ⟨2, ![2560, 10240]⟩
abbrev S1280x10240 : Shape := ⟨2, ![1280, 10240]⟩
abbrev S20x10240 : Shape := ⟨2, ![20, 10240]⟩
abbrev S2560x48 : Shape := ⟨2, ![2560, 48]⟩
abbrev S48x10240 : Shape := ⟨2, ![48, 10240]⟩
abbrev S256x2560 : Shape := ⟨2, ![256, 2560]⟩
abbrev S256x1 : Shape := ⟨2, ![256, 1]⟩
abbrev S256x48 : Shape := ⟨2, ![256, 48]⟩
abbrev S2560x512 : Shape := ⟨2, ![2560, 512]⟩
abbrev S1280x512 : Shape := ⟨2, ![1280, 512]⟩
abbrev S20x512 : Shape := ⟨2, ![20, 512]⟩
abbrev S48x512 : Shape := ⟨2, ![48, 512]⟩
abbrev S256x128 : Shape := ⟨2, ![256, 128]⟩
abbrev S128x512 : Shape := ⟨2, ![128, 512]⟩
abbrev S32x512 : Shape := ⟨2, ![32, 512]⟩
abbrev S1x512 : Shape := ⟨2, ![1, 512]⟩
abbrev S256x1280 : Shape := ⟨2, ![256, 1280]⟩
abbrev S256x512 : Shape := ⟨2, ![256, 512]⟩
abbrev S256 : Shape := ⟨1, ![256]⟩

abbrev nBuf : Space → Nat
  | .hbm => 11
  | .vmem => 17
  | .smem => 0
  | _ => 0

abbrev bufTy : (tb : Table) → Fin (tcTables nBuf tb) → BufTy
  | .hbm, ⟨0, _⟩ => ⟨S2x128x2560, .bf16⟩
  | .hbm, ⟨1, _⟩ => ⟨S2560x10240, .bf16⟩
  | .hbm, ⟨2, _⟩ => ⟨S1280x10240, .i8⟩
  | .hbm, ⟨3, _⟩ => ⟨S20x10240, .bf16⟩
  | .hbm, ⟨4, _⟩ => ⟨S2560x48, .bf16⟩
  | .hbm, ⟨5, _⟩ => ⟨S48x10240, .bf16⟩
  | .hbm, ⟨6, _⟩ => ⟨S256x2560, .bf16⟩
  | .hbm, ⟨7, _⟩ => ⟨S256x1, .f32⟩
  | .hbm, ⟨8, _⟩ => ⟨S256x48, .f32⟩
  | .hbm, ⟨9, _⟩ => ⟨S2560x48, .f32⟩
  | .hbm, ⟨10, _⟩ => ⟨S48x10240, .f32⟩
  | .local _ .vmem, ⟨0, _⟩ => ⟨S256x2560, .bf16⟩
  | .local _ .vmem, ⟨1, _⟩ => ⟨S2560x512, .bf16⟩
  | .local _ .vmem, ⟨2, _⟩ => ⟨S2560x512, .bf16⟩
  | .local _ .vmem, ⟨3, _⟩ => ⟨S1280x512, .i8⟩
  | .local _ .vmem, ⟨4, _⟩ => ⟨S1280x512, .i8⟩
  | .local _ .vmem, ⟨5, _⟩ => ⟨S20x512, .bf16⟩
  | .local _ .vmem, ⟨6, _⟩ => ⟨S20x512, .bf16⟩
  | .local _ .vmem, ⟨7, _⟩ => ⟨S2560x48, .bf16⟩
  | .local _ .vmem, ⟨8, _⟩ => ⟨S48x512, .bf16⟩
  | .local _ .vmem, ⟨9, _⟩ => ⟨S48x512, .bf16⟩
  | .local _ .vmem, ⟨10, _⟩ => ⟨S256x1, .f32⟩
  | .local _ .vmem, ⟨11, _⟩ => ⟨S256x48, .f32⟩
  | .local _ .vmem, ⟨12, _⟩ => ⟨S2560x48, .f32⟩
  | .local _ .vmem, ⟨13, _⟩ => ⟨S48x512, .f32⟩
  | .local _ .vmem, ⟨14, _⟩ => ⟨S48x512, .f32⟩
  | .local _ .vmem, ⟨15, _⟩ => ⟨S256x48, .bf16⟩
  | .local _ .vmem, ⟨16, _⟩ => ⟨S256x128, .f32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v301 : BitVec 1 := Scalar.cmpi .eq arg0 c19_i32
  let v302 : BitVec 32 := Scalar.extui v301
  let c0_i32_134 : BitVec 32 := 0#32
  let v303 : BitVec 1 := Scalar.cmpi .ne v302 c0_i32_134
  v303

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2560x48 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S48x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2560x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S48x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x128x2560 : Shape := ⟨3, ![2, 128, 2560]⟩
abbrev S2560x10240 : Shape := ⟨2, ![2560, 10240]⟩
abbrev S1280x10240 : Shape := ⟨2, ![1280, 10240]⟩
abbrev S20x10240 : Shape := ⟨2, ![20, 10240]⟩
abbrev S2560x48 : Shape := ⟨2, ![2560, 48]⟩
abbrev S48x10240 : Shape := ⟨2, ![48, 10240]⟩
abbrev S_ : Shape := ⟨0, ![]⟩
abbrev S10x10240 : Shape := ⟨2, ![10, 10240]⟩
abbrev S10x128x10240 : Shape := ⟨3, ![10, 128, 10240]⟩
abbrev S2x128x1280 : Shape := ⟨3, ![2, 128, 1280]⟩
abbrev S2x128x10240 : Shape := ⟨3, ![2, 128, 10240]⟩
abbrev S2x128x48 : Shape := ⟨3, ![2, 128, 48]⟩
abbrev S2x128 : Shape := ⟨2, ![2, 128]⟩
abbrev S256x1 : Shape := ⟨2, ![256, 1]⟩
abbrev S256x48 : Shape := ⟨2, ![256, 48]⟩

abbrev nBuf : Space → Nat
  | .hbm => 67
  | .vmem => 0
  | .smem => 0
  | _ => 0

abbrev bufTy : (tb : Table) → Fin (tcTables nBuf tb) → BufTy
  | .hbm, ⟨0, _⟩ => ⟨S2x128x2560, .bf16⟩
  | .hbm, ⟨1, _⟩ => ⟨S2560x10240, .bf16⟩
  | .hbm, ⟨2, _⟩ => ⟨S1280x10240, .i8⟩
  | .hbm, ⟨3, _⟩ => ⟨S20x10240, .bf16⟩
  | .hbm, ⟨4, _⟩ => ⟨S2560x48, .bf16⟩
  | .hbm, ⟨5, _⟩ => ⟨S48x10240, .bf16⟩
  | .hbm, ⟨6, _⟩ => ⟨S1280x10240, .i32⟩
  | .hbm, ⟨7, _⟩ => ⟨S_, .i32⟩
  | .hbm, ⟨8, _⟩ => ⟨S1280x10240, .i32⟩
  | .hbm, ⟨9, _⟩ => ⟨S1280x10240, .i32⟩
  | .hbm, ⟨10, _⟩ => ⟨S_, .i32⟩
  | .hbm, ⟨11, _⟩ => ⟨S1280x10240, .i32⟩
  | .hbm, ⟨12, _⟩ => ⟨S1280x10240, .i32⟩
  | .hbm, ⟨13, _⟩ => ⟨S_, .i32⟩
  | .hbm, ⟨14, _⟩ => ⟨S1280x10240, .i32⟩
  | .hbm, ⟨15, _⟩ => ⟨S1280x10240, .i32⟩
  | .hbm, ⟨16, _⟩ => ⟨S_, .i32⟩
  | .hbm, ⟨17, _⟩ => ⟨S1280x10240, .i32⟩
  | .hbm, ⟨18, _⟩ => ⟨S1280x10240, .i32⟩
  | .hbm, ⟨19, _⟩ => ⟨S_, .i32⟩
  | .hbm, ⟨20, _⟩ => ⟨S1280x10240, .i32⟩
  | .hbm, ⟨21, _⟩ => ⟨S1280x10240, .i32⟩
  | .hbm, ⟨22, _⟩ => ⟨S_, .i32⟩
  | .hbm, ⟨23, _⟩ => ⟨S1280x10240, .i32⟩
  | .hbm, ⟨24, _⟩ => ⟨S1280x10240, .i32⟩
  | .hbm, ⟨25, _⟩ => ⟨S_, .i32⟩
  | .hbm, ⟨26, _⟩ => ⟨S1280x10240, .i32⟩
  | .hbm, ⟨27, _⟩ => ⟨S1280x10240, .i32⟩
  | .hbm, ⟨28, _⟩ => ⟨S10x10240, .bf16⟩
  | .hbm, ⟨29, _⟩ => ⟨S1280x10240, .bf16⟩
  | .hbm, ⟨30, _⟩ => ⟨S1280x10240, .bf16⟩
  | .hbm, ⟨31, _⟩ => ⟨S10x128x10240, .bf16⟩
  | .hbm, ⟨32, _⟩ => ⟨S1280x10240, .bf16⟩
  | .hbm, ⟨33, _⟩ => ⟨S1280x10240, .bf16⟩
  | .hbm, ⟨34, _⟩ => ⟨S1280x10240, .bf16⟩
  | .hbm, ⟨35, _⟩ => ⟨S10x10240, .bf16⟩
  | .hbm, ⟨36, _⟩ => ⟨S1280x10240, .bf16⟩
  | .hbm, ⟨37, _⟩ => ⟨S1280x10240, .bf16⟩
  | .hbm, ⟨38, _⟩ => ⟨S10x128x10240, .bf16⟩
  | .hbm, ⟨39, _⟩ => ⟨S1280x10240, .bf16⟩
  | .hbm, ⟨40, _⟩ => ⟨S1280x10240, .bf16⟩
  | .hbm, ⟨41, _⟩ => ⟨S1280x10240, .bf16⟩
  | .hbm, ⟨42, _⟩ => ⟨S2x128x1280, .bf16⟩
  | .hbm, ⟨43, _⟩ => ⟨S2x128x10240, .f32⟩
  | .hbm, ⟨44, _⟩ => ⟨S2x128x1280, .bf16⟩
  | .hbm, ⟨45, _⟩ => ⟨S2x128x10240, .f32⟩
  | .hbm, ⟨46, _⟩ => ⟨S2x128x10240, .f32⟩
  | .hbm, ⟨47, _⟩ => ⟨S2x128x48, .f32⟩
  | .hbm, ⟨48, _⟩ => ⟨S2x128x48, .bf16⟩
  | .hbm, ⟨49, _⟩ => ⟨S2x128x10240, .f32⟩
  | .hbm, ⟨50, _⟩ => ⟨S2x128x10240, .f32⟩
  | .hbm, ⟨51, _⟩ => ⟨S2x128x10240, .f32⟩
  | .hbm, ⟨52, _⟩ => ⟨S_, .f32⟩
  | .hbm, ⟨53, _⟩ => ⟨S2x128, .f32⟩
  | .hbm, ⟨54, _⟩ => ⟨S2x128x10240, .bf16⟩
  | .hbm, ⟨55, _⟩ => ⟨S2x128x48, .f32⟩
  | .hbm, ⟨56, _⟩ => ⟨S2x128x48, .bf16⟩
  | .hbm, ⟨57, _⟩ => ⟨S2560x48, .f32⟩
  | .hbm, ⟨58, _⟩ => ⟨S_, .f32⟩
  | .hbm, ⟨59, _⟩ => ⟨S2560x48, .f32⟩
  | .hbm, ⟨60, _⟩ => ⟨S2560x48, .f32⟩
  | .hbm, ⟨61, _⟩ => ⟨S48x10240, .f32⟩
  | .hbm, ⟨62, _⟩ => ⟨S_, .f32⟩
  | .hbm, ⟨63, _⟩ => ⟨S48x10240, .f32⟩
  | .hbm, ⟨64, _⟩ => ⟨S48x10240, .f32⟩
  | .hbm, ⟨65, _⟩ => ⟨S256x1, .f32⟩
  | .hbm, ⟨66, _⟩ => ⟨S256x48, .f32⟩
  | _, _ => ⟨S2x128x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Proof.Nibbles.lean ====
/-
  The packed 4-bit codes, read at an element.

  The kernel reads four bytes of a column as one 32-bit word, moves every byte's low half up by four bits (or keeps its high
  half), masks the low halves off and reads the word as four bytes again: what it gets is, per byte, sixteen times the signed
  value of the half. The reference takes the same half out of the byte itself, `((h & 15) ^ 8) - 8`. This module states both
  readings at an element and that they agree, and reads the kernel's dequantised blocks `w - code * scale` at an element.
-/
module

public import proofs.«01_k».proof.Proof.Gen.KernelIdeal.Skeleton
public import Idealize.ShloMosaic.Lib.Pointwise
public import Idealize.ShloMosaic.Lib.BitcastFour
public import Idealize.ShloMosaic.Lib.IdealHost

@[expose] public section

set_option maxRecDepth 16384

noncomputable section

namespace Cert.Fit

open Idealize.ShloMosaic Cert.KernelIdeal Cert.KernelIdeal.Gen

/-- The signed value of a byte's low half. -/
def lowCode (b : BitVec 8) : Int := (((b.setWidth 32 &&& 15#32) ^^^ 8#32) - 8#32).toInt

/-- The signed value of a byte's high half. -/
def highCode (b : BitVec 8) : Int := ((((b.setWidth 32).sshiftRight 4 &&& 15#32) ^^^ 8#32) - 8#32).toInt

/-- A byte's low half in the place of its high half, read as a signed byte, is sixteen times the low half's signed value. -/
theorem toInt_low (b : BitVec 8) : ((b <<< 4) &&& 240#8).toInt = 16 * lowCode b := by
  revert b; unfold lowCode; decide +kernel

/-- A byte with its low half masked off, read as a signed byte, is sixteen times the high half's signed value. -/
theorem toInt_high (b : BitVec 8) : (b &&& 240#8).toInt = 16 * highCode b := by
  revert b; unfold highCode; decide +kernel

/-- Sixteen times an integer, times one sixteenth, is the integer. -/
theorem sixteenth (z n : Int) (h : z = 16 * n) :
    ((z : ℝ) : EReal) * Ideal.ofBits .bf16 0x3D80#16 = ((n : ℝ) : EReal) := by
  rw [Ideal.ofBits_sixteenth_bf16, ← EReal.coe_mul, h]
  congr 1; push_cast; ring

/-- Bit `q` of the word that a column's bytes spell, found from a byte's place in the column. -/
theorem word_getLsbD (x : IVec S128x512 8) (a : Fin 32) (l : Fin 512) (q : Nat) (hq : q < 32) (p : Fin 128)
    (hp : p.val = 4 * a.val + q / 8) :
    (bitcast S32x512 32 x bitcasts_S128x512_w8_S32x512_w32 (ValueIdx.ix2 a l)).getLsbD q = (x (ValueIdx.ix2 p l)).getLsbD (q % 8) :=
  bitcast_8_32_getLsbD_ix2 x _ a l q hq p hp

/-- Words read as bytes again: bit `q` of byte row `p` is bit `8 (p % 4) + q` of word row `p / 4`. -/
theorem byte_getLsbD (y : IVec S32x512 32) (p : Fin 128) (l : Fin 512) (q : Nat) (hq : q < 8) (a : Fin 32)
    (ha : a.val = p.val / 4) :
    (bitcast S128x512 8 y bitcasts_S32x512_w32_S128x512_w8 (ValueIdx.ix2 p l)).getLsbD q
      = (y (ValueIdx.ix2 a l)).getLsbD (8 * (p.val % 4) + q) := by
  rw [bitcast_getLsbD y _ _ q hq (by decide)]
  have hr : S128x512.row (ValueIdx.ix2 p l) = p.val := rfl
  have e2 : (S128x512.row (ValueIdx.ix2 p l) * 8 + q) % 32 = 8 * (p.val % 4) + q := by rw [hr]; omega
  have e1 : (S128x512.row (ValueIdx.ix2 p l) * 8 + q) / 32 = a.val := by rw [hr, ha]; omega
  rw [e2]
  congr 2
  funext c
  match c with
  | ⟨0, _⟩ => exact Fin.ext ((bitcasts_S32x512_w32_S128x512_w8.srcIdx_row _ _ _ ⟨0, Nat.zero_lt_two⟩ rfl).trans e1)
  | ⟨1, _⟩ => exact Fin.ext (bitcasts_S32x512_w32_S128x512_w8.srcIdx_other _ _ _ ⟨1, Nat.one_lt_two⟩ (by show ¬ 1 + 2 = 2; omega))

/-- The mask `0xF0F0F0F0` keeps the upper half of each byte. -/
theorem mask_getLsbD (q : Nat) (hq : q < 32) : (4042322160#32).getLsbD q = decide (4 ≤ q % 8) := by
  revert hq; revert q; decide

/-- The mask `0xF0` keeps the upper half of a byte. -/
theorem mask8_getLsbD (q : Nat) (hq : q < 8) : (240#8).getLsbD q = decide (4 ≤ q) := by
  revert hq; revert q; decide

/-- The low halves: words shifted up by four and masked, read as bytes again, hold each byte's low half in the upper half. -/
theorem low_bytes (x : IVec S128x512 8) (r : Fin 128) (l : Fin 512) :
    bitcast S128x512 8 (andi (shli (bitcast S32x512 32 x bitcasts_S128x512_w8_S32x512_w32) (broadcast S32x512 4#32))
      (broadcast S32x512 4042322160#32)) bitcasts_S32x512_w32_S128x512_w8 (ValueIdx.ix2 r l)
      = ((x (ValueIdx.ix2 r l)) <<< 4) &&& 240#8 := by
  apply BitVec.eq_of_getLsbD_eq
  intro q hq
  have hr := r.isLt
  rw [byte_getLsbD _ r l q hq ⟨r.val / 4, by omega⟩ rfl]
  show (((bitcast S32x512 32 x bitcasts_S128x512_w8_S32x512_w32 (ValueIdx.ix2 ⟨r.val / 4, _⟩ l)) <<< 4#32) &&& 4042322160#32).getLsbD _ = _
  rw [BitVec.getLsbD_and, BitVec.getLsbD_and, mask_getLsbD _ (by omega), mask8_getLsbD q hq,
    show (8 * (r.val % 4) + q) % 8 = q by omega]
  by_cases h4 : 4 ≤ q
  · simp only [h4, decide_true, Bool.and_true]
    rw [BitVec.shiftLeft_eq', BitVec.getLsbD_shiftLeft, BitVec.getLsbD_shiftLeft]
    rw [show (4#32).toNat = 4 from rfl]
    rw [word_getLsbD x ⟨r.val / 4, by omega⟩ l _ (by omega) r (by show r.val = 4 * (r.val / 4) + _; omega)]
    have : (8 * (r.val % 4) + q - 4) % 8 = q - 4 := by omega
    rw [this]
    simp [show ¬ (8 * (r.val % 4) + q < 4) by omega, show ¬ q < 4 by omega, hq, show 8 * (r.val % 4) + q < 32 by omega]
  · simp [h4]

/-- The high halves: words masked, read as bytes again, hold each byte with its low half cleared. -/
theorem high_bytes (x : IVec S128x512 8) (r : Fin 128) (l : Fin 512) :
    bitcast S128x512 8 (andi (bitcast S32x512 32 x bitcasts_S128x512_w8_S32x512_w32) (broadcast S32x512 4042322160#32))
      bitcasts_S32x512_w32_S128x512_w8 (ValueIdx.ix2 r l)
      = (x (ValueIdx.ix2 r l)) &&& 240#8 := by
  apply BitVec.eq_of_getLsbD_eq
  intro q hq
  have hr := r.isLt
  rw [byte_getLsbD _ r l q hq ⟨r.val / 4, by omega⟩ rfl]
  show ((bitcast S32x512 32 x bitcasts_S128x512_w8_S32x512_w32 (ValueIdx.ix2 ⟨r.val / 4, _⟩ l)) &&& 4042322160#32).getLsbD _ = _
  rw [BitVec.getLsbD_and, BitVec.getLsbD_and, mask_getLsbD _ (by omega), mask8_getLsbD q hq,
    show (8 * (r.val % 4) + q) % 8 = q by omega,
    word_getLsbD x ⟨r.val / 4, by omega⟩ l _ (by omega) r (by show r.val = 4 * (r.val / 4) + _; omega),
    show (8 * (r.val % 4) + q) % 8 = q by omega]

/-- A block of the low half's error at an element: the weight less its code times its group's scale. -/
theorem lowBlock_apply (c : IVec S128x512 8) (s : FVec Ideal S1x512 .bf16) (w : FVec Ideal S128x512 .bf16) (r : Fin 128) (l : Fin 512) :
    k0_pay7 (F := Ideal) c s w (ix2 r l) = w (ix2 r l) - (((lowCode (c (ix2 r l)) : ℤ) : ℝ) : EReal) * s (ix2 0 l) := by
  have h := low_bytes c r l
  simp only [← ix2_eq_valueIdx] at h
  pointwise [k0_pay7, k0_pay6]
  rw [h]
  exact congrArg (fun e => w (ix2 r l) - e * s (ix2 0 l)) (sixteenth _ _ (toInt_low _))

/-- The same for the high half. -/
theorem highBlock_apply (c : IVec S128x512 8) (s : FVec Ideal S1x512 .bf16) (w : FVec Ideal S128x512 .bf16) (r : Fin 128) (l : Fin 512) :
    k0_pay8 (F := Ideal) c s w (ix2 r l) = w (ix2 r l) - (((highCode (c (ix2 r l)) : ℤ) : ℝ) : EReal) * s (ix2 0 l) := by
  have h := high_bytes c r l
  simp only [← ix2_eq_valueIdx] at h
  pointwise [k0_pay8, k0_pay6]
  rw [h]
  exact congrArg (fun e => w (ix2 r l) - e * s (ix2 0 l)) (sixteenth _ _ (toInt_high _))

end Cert.Fit
-- ==== Proof.Tile.lean ====
/-
  One tile of columns, read as values: the residual `x e - pb b` of the tile, with `e` the error of the tile's weights.

  The kernel computes the tile's 2560 rows of `e` in twenty blocks of 128 rows (ten of the low halves, ten of the high halves),
  stacks them, and multiplies. This module names the blocks and the residual tile as functions of the tile's inputs, and reads
  the residual at an element as the plain formula `resid` of the one row of `x` and the one column of the weights it belongs to.
-/
module

public import proofs.«01_k».proof.Proof.Nibbles
public import Idealize.ShloMosaic.Lib.Pipeline.FrameBody

@[expose] public section

set_option maxRecDepth 16384

noncomputable section

namespace Cert.Fit

open Idealize.ShloMosaic Cert.KernelIdeal Cert.KernelIdeal.Gen

/-! ## The plain formulas, column by column -/

/-- Row `k` of the first half of a column of the weight's error: the weight less its code times its group's scale. -/
def errLow (w : Fin 2560 → EReal) (c : Fin 1280 → BitVec 8) (s : Fin 20 → EReal) (k : Fin 1280) : EReal :=
  w ⟨k, by omega⟩ - (((lowCode (c k) : ℤ) : ℝ) : EReal) * s ⟨k / 128, by omega⟩

/-- Row `k` of the second half of a column of the weight's error. -/
def errHigh (w : Fin 2560 → EReal) (c : Fin 1280 → BitVec 8) (s : Fin 20 → EReal) (k : Fin 1280) : EReal :=
  w ⟨1280 + k, by omega⟩ - (((highCode (c k) : ℤ) : ℝ) : EReal) * s ⟨10 + k / 128, by omega⟩

/-- The residual of one token at one column: its row of `x` against the column of the weight's error, less its row of `x a`
    against the column of `b`. -/
def resid (x : Fin 2560 → EReal) (pb : Fin 48 → EReal) (w : Fin 2560 → EReal) (c : Fin 1280 → BitVec 8) (s : Fin 20 → EReal)
    (b : Fin 48 → EReal) : EReal :=
  ((∑ k : Fin 1280, x ⟨k, by omega⟩ * errLow w c s k) + ∑ k : Fin 1280, x ⟨1280 + k, by omega⟩ * errHigh w c s k)
    - ∑ q : Fin 48, pb q * b q

/-! ## The tile's blocks -/

section Blocks

variable {F : FTy → Type} [FloatOps F]
variable (x : Vec F S256x2560 .bf16) (w : Vec F S2560x512 .bf16) (c : Vec F S1280x512 .i8) (s : Vec F S20x512 .bf16)
  (pb : Vec F S256x48 .bf16) (b : Vec F S48x512 .bf16)

/-- Rows `128 g` to `128 g + 127` of the tile's codes lie inside its 1280 rows. -/
theorem codes_inb (g : Fin 10) : ∀ a, (![128 * g.val, 0] : Fin 2 → Nat) a + S128x512.size a ≤ S1280x512.size a := by
  revert g; decide

/-- Those rows of the first half of its weights lie inside its 2560 rows. -/
theorem low_inb (g : Fin 10) : ∀ a, (![128 * g.val, 0] : Fin 2 → Nat) a + S128x512.size a ≤ S2560x512.size a := by
  revert g; decide

/-- So do those of the second half. -/
theorem high_inb (g : Fin 10) : ∀ a, (![1280 + 128 * g.val, 0] : Fin 2 → Nat) a + S128x512.size a ≤ S2560x512.size a := by
  revert g; decide

/-- Scale row `g` lies inside its 20 rows. -/
theorem scaleLow_inb (g : Fin 10) : ∀ a, (![g.val, 0] : Fin 2 → Nat) a + S1x512.size a ≤ S20x512.size a := by
  revert g; decide

/-- So does scale row `10 + g`. -/
theorem scaleHigh_inb (g : Fin 10) : ∀ a, (![10 + g.val, 0] : Fin 2 → Nat) a + S1x512.size a ≤ S20x512.size a := by
  revert g; decide

/-- Row group `g` of the first half of the tile's weight error. -/
def lowBlock (g : Fin 10) : FVec F S128x512 .bf16 :=
  k0_pay7 (View.ld c (Rect.unit ![128 * g.val, 0] S128x512.size (codes_inb g)))
    (View.ld s (Rect.unit ![g.val, 0] S1x512.size (scaleLow_inb g)))
    (View.ld w (Rect.unit ![128 * g.val, 0] S128x512.size (low_inb g)))

/-- Row group `g` of the second half of the tile's weight error. -/
def highBlock (g : Fin 10) : FVec F S128x512 .bf16 :=
  k0_pay8 (View.ld c (Rect.unit ![128 * g.val, 0] S128x512.size (codes_inb g)))
    (View.ld s (Rect.unit ![10 + g.val, 0] S1x512.size (scaleHigh_inb g)))
    (View.ld w (Rect.unit ![1280 + 128 * g.val, 0] S128x512.size (high_inb g)))

/-- The first half of the tile's weight error: its ten blocks stacked. -/
def lowErr : FVec F S1280x512 .bf16 :=
  concatenate S1280x512 0 [⟨S128x512, lowBlock w c s 0⟩, ⟨S128x512, lowBlock w c s 1⟩, ⟨S128x512, lowBlock w c s 2⟩, ⟨S128x512, lowBlock w c s 3⟩, ⟨S128x512, lowBlock w c s 4⟩, ⟨S128x512, lowBlock w c s 5⟩, ⟨S128x512, lowBlock w c s 6⟩, ⟨S128x512, lowBlock w c s 7⟩, ⟨S128x512, lowBlock w c s 8⟩, ⟨S128x512, lowBlock w c s 9⟩]
    concatenates_S128x512_S128x512_S128x512_S128x512_S128x512_S128x512_S128x512_S128x512_S128x512_S128x512_S1280x512_d0

/-- The second half of the tile's weight error. -/
def highErr : FVec F S1280x512 .bf16 :=
  concatenate S1280x512 0 [⟨S128x512, highBlock w c s 0⟩, ⟨S128x512, highBlock w c s 1⟩, ⟨S128x512, highBlock w c s 2⟩, ⟨S128x512, highBlock w c s 3⟩, ⟨S128x512, highBlock w c s 4⟩, ⟨S128x512, highBlock w c s 5⟩, ⟨S128x512, highBlock w c s 6⟩, ⟨S128x512, highBlock w c s 7⟩, ⟨S128x512, highBlock w c s 8⟩, ⟨S128x512, highBlock w c s 9⟩]
    concatenates_S128x512_S128x512_S128x512_S128x512_S128x512_S128x512_S128x512_S128x512_S128x512_S128x512_S1280x512_d0

/-- The tile's residual: the two halves of `x` against the two halves of the weight error, less `pb` against `b`. -/
def residTile : FVec F S256x512 .f32 :=
  subf (addf
      (matmul dot_S256x1280_S1280x512_S256x512_1_0_0_1_n_n none
        (View.ld x (Rect.unit ![0, 0] S256x1280.size inb_S256x2560_S256x1280_0_0)) (lowErr w c s)
        (constant S256x512 .f32 0x00000000#32))
      (matmul dot_S256x1280_S1280x512_S256x512_1_0_0_1_n_n none
        (View.ld x (Rect.unit ![0, 1280] S256x1280.size inb_S256x2560_S256x1280_0_1280)) (highErr w c s)
        (constant S256x512 .f32 0x00000000#32)))
    (matmul dot_S256x48_S48x512_S256x512_1_0_0_1_n_n none pb b (constant S256x512 .f32 0x00000000#32))

end Blocks

/-! ## The same at an element -/

/-- Ten blocks of 128 rows that hold the rows of `f`, stacked, are `f`. -/
theorem stack_eq {α : Type} (f : S1280x512.Idx → α) (p : Fin 10 → S128x512.Idx → α)
    (h : ∀ (g : Fin 10) (r : Fin 128) (l : Fin 512), p g (ix2 r l) = f (ix2 ⟨128 * g.val + r.val, by omega⟩ l)) :
    concatenate S1280x512 0 [⟨S128x512, p 0⟩, ⟨S128x512, p 1⟩, ⟨S128x512, p 2⟩, ⟨S128x512, p 3⟩, ⟨S128x512, p 4⟩, ⟨S128x512, p 5⟩, ⟨S128x512, p 6⟩, ⟨S128x512, p 7⟩, ⟨S128x512, p 8⟩, ⟨S128x512, p 9⟩]
      concatenates_S128x512_S128x512_S128x512_S128x512_S128x512_S128x512_S128x512_S128x512_S128x512_S128x512_S1280x512_d0 = f := by
  funext j
  obtain ⟨k, l, rfl⟩ : ∃ (k : Fin 1280) (l : Fin 512), j = ix2 k l := ⟨j 0, j 1, eq_ix2 j⟩
  pointwise
  repeat' split
  all_goals
    rw [h]
    refine congrArg (fun k' => f (ix2 k' l)) (Fin.ext ?_)
    simp only [Fin.isValue, Fin.val_zero, Fin.val_one, Fin.reduceFinMk, Fin.val_two, Fin.coe_ofNat_eq_mod]
    omega

section AtElement

variable (x : Vec Ideal S256x2560 .bf16) (w : Vec Ideal S2560x512 .bf16) (c : Vec Ideal S1280x512 .i8) (s : Vec Ideal S20x512 .bf16)
  (pb : Vec Ideal S256x48 .bf16) (b : Vec Ideal S48x512 .bf16)

/-- The stacked first half at an element is the plain formula of its column. -/
theorem lowErr_apply (k : Fin 1280) (l : Fin 512) :
    lowErr w c s (ix2 k l) = errLow (fun k => w (ix2 k l)) (fun k => c (ix2 k l)) (fun g => s (ix2 g l)) k := by
  refine congrFun (stack_eq (fun j => errLow (fun k => w (ix2 k (j 1))) (fun k => c (ix2 k (j 1))) (fun g => s (ix2 g (j 1))) (j 0))
    (lowBlock w c s) fun g r l => ?_) (ix2 k l)
  unfold lowBlock
  rw [lowBlock_apply]
  pointwise [errLow]
  simp only [show (128 * g.val + r.val) / 128 = g.val by omega]

/-- The stacked second half at an element is the plain formula of its column. -/
theorem highErr_apply (k : Fin 1280) (l : Fin 512) :
    highErr w c s (ix2 k l) = errHigh (fun k => w (ix2 k l)) (fun k => c (ix2 k l)) (fun g => s (ix2 g l)) k := by
  refine congrFun (stack_eq (fun j => errHigh (fun k => w (ix2 k (j 1))) (fun k => c (ix2 k (j 1))) (fun g => s (ix2 g (j 1))) (j 0))
    (highBlock w c s) fun g r l => ?_) (ix2 k l)
  unfold highBlock
  rw [highBlock_apply]
  pointwise [errHigh]
  simp only [show (128 * g.val + r.val) / 128 = g.val by omega, Nat.add_assoc]

/-- The residual tile at an element is the plain residual of its token and column. -/
theorem residTile_apply (i : Fin 256) (l : Fin 512) :
    residTile x w c s pb b (ix2 i l)
      = resid (fun k => x (ix2 i k)) (fun q => pb (ix2 i q)) (fun k => w (ix2 k l)) (fun k => c (ix2 k l)) (fun g => s (ix2 g l))
          (fun q => b (ix2 q l)) := by
  unfold residTile
  pointwise
  simp only [lowErr_apply, highErr_apply]
  rfl

end AtElement

end Cert.Fit
-- ==== Proof.Steps.lean ====
/-
  What the kernel's body leaves in its outputs and its two carried scratch buffers at one grid point, as functions of the point's
  input blocks and of what the point before left.

  The body runs in three cases: at the first point it first computes `pb = x a` and clears the running sums; at the last point it
  also writes the loss and `d_a`; in between it does neither. In every case it adds the tile's squared residuals into the lane
  sums, adds the tile's part of `g`, and writes the tile of `d_b`.
-/
module

public import proofs.«01_k».proof.Proof.Tile
public import proofs.«01_k».proof.Proof.Gen.KernelIdeal.Frame
public import Idealize.ShloMosaic.Lib.Pipeline.Value
public import Idealize.ShloMosaic.Lib.Tactic

@[expose] public section

set_option maxRecDepth 16384

noncomputable section

namespace Cert.Fit

open Idealize.ShloMosaic Cert.KernelIdeal Cert.KernelIdeal.Gen

variable {F : FTy → Type} [FloatOps F]

/-! ## One point's updates -/

/-- The lane sums after a tile: the four 128-lane slices of the squared residuals added in. -/
def lsumStep (r : FVec F S256x512 .f32) (lsum : Vec F S256x128 .f32) : FVec F S256x128 .f32 :=
  addf lsum (addf (addf (addf (addf (broadcast S256x128 (Scalar.ofBits .f32 0x00000000#32))
    (extractStridedSlice S256x128 ![0, 0] (mulf r r) slices_S256x512_o0_0_S256x128))
    (extractStridedSlice S256x128 ![0, 128] (mulf r r) slices_S256x512_o0_128_S256x128))
    (extractStridedSlice S256x128 ![0, 256] (mulf r r) slices_S256x512_o0_256_S256x128))
    (extractStridedSlice S256x128 ![0, 384] (mulf r r) slices_S256x512_o0_384_S256x128))

/-- The running `g` after a tile: the tile's residual against its columns of `b`, over the tile's columns. -/
def gStep (r : FVec F S256x512 .f32) (b : Vec F S48x512 .bf16) (g : Vec F S256x48 .f32) : FVec F S256x48 .f32 :=
  addf g (matmul dot_S256x512_S48x512_S256x48_1_1_0_0_n_n none (truncf .bf16 r bitsLt_bf16_f32) b (constant S256x48 .f32 0x00000000#32))

/-- The tile of `d_b`: minus two times `pb` against the tile's residual, over the tokens. -/
def dbTile (pb : Vec F S256x48 .bf16) (r : FVec F S256x512 .f32) : FVec F S48x512 .f32 :=
  mulf (broadcast S48x512 (Scalar.ofBits .f32 0xC0000000#32))
    (matmul dot_S256x48_S256x512_S48x512_0_0_1_1_n_n none pb (truncf .bf16 r bitsLt_bf16_f32) (constant S48x512 .f32 0x00000000#32))

/-- The two zero offsets of a whole block. -/
theorem zeros : (![0, 0] : Fin 2 → Nat) = fun _ => 0 := funext fun a => by fin_cases a <;> rfl

/-! ## The three cases -/

section Cases

variable (d : Dev nD) (i : grid0.Coords)
  (arg1 : Memref sig .tc .vmem S256x2560 .bf16) (harg1 : arg1.IsWhole)
  (arg2 : Memref sig .tc .vmem S2560x512 .bf16) (harg2 : arg2.IsWhole)
  (arg3 : Memref sig .tc .vmem S1280x512 .i8) (harg3 : arg3.IsWhole)
  (arg4 : Memref sig .tc .vmem S20x512 .bf16) (harg4 : arg4.IsWhole)
  (arg5 : Memref sig .tc .vmem S2560x48 .bf16) (harg5 : arg5.IsWhole)
  (arg6 : Memref sig .tc .vmem S48x512 .bf16) (harg6 : arg6.IsWhole)
  (arg7 : Memref sig .tc .vmem S256x1 .f32) (harg7 : arg7.IsWhole)
  (arg8 : Memref sig .tc .vmem S256x48 .f32) (harg8 : arg8.IsWhole)
  (arg9 : Memref sig .tc .vmem S2560x48 .f32) (harg9 : arg9.IsWhole)
  (arg10 : Memref sig .tc .vmem S48x512 .f32) (harg10 : arg10.IsWhole)
  (arg11 : Memref sig .tc .vmem S256x48 .bf16) (harg11 : arg11.IsWhole)
  (arg12 : Memref sig .tc .vmem S256x128 .f32) (harg12 : arg12.IsWhole)
  (x : Vec F S256x2560 .bf16) (w : Vec F S2560x512 .bf16) (c : Vec F S1280x512 .i8) (s : Vec F S20x512 .bf16)
  (a : Vec F S2560x48 .bf16) (b : Vec F S48x512 .bf16) (g : Vec F S256x48 .f32) (pb : Vec F S256x48 .bf16) (lsum : Vec F S256x128 .f32)

/-- At the first point: the carried `pb`. -/
theorem sout0_A_0_eq (hc0 : cond0_0 i) (hc1 : ¬cond0_1 i) :
    sout0_A_0 (F := F) d i arg1 harg1 arg2 harg2 arg3 harg3 arg4 harg4 arg5 harg5 arg6 harg6 arg7 harg7 arg8 harg8 arg9 harg9 arg10 harg10 arg11 harg11 arg12 harg12 hc0 hc1 x w c s a b = k0_pay3 x a := by
  unfold sout0_A_0
  rw [View.read_writes_eq_canon _ _ _ (scover0_A_0 d i arg1 harg1 arg2 harg2 arg3 harg3 arg4 harg4 arg5 harg5 arg6 harg6 arg7 harg7 arg8 harg8 arg9 harg9 arg10 harg10 arg11 harg11 arg12 harg12 hc0 hc1 x w c s a b)]
  unfold kernelRun0_A
  dsimp only
  sl_unfold_words
  rw [View.canon_unit_zero (S := S256x48) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]

/-- At the first point: the lane sums. -/
theorem sout0_A_1_eq (hc0 : cond0_0 i) (hc1 : ¬cond0_1 i) :
    sout0_A_1 (F := F) d i arg1 harg1 arg2 harg2 arg3 harg3 arg4 harg4 arg5 harg5 arg6 harg6 arg7 harg7 arg8 harg8 arg9 harg9 arg10 harg10 arg11 harg11 arg12 harg12 hc0 hc1 x w c s a b = lsumStep (residTile x w c s (k0_pay3 x a) b) k0_pay5 := by
  unfold sout0_A_1
  rw [View.read_writes_eq_canon _ _ _ (scover0_A_1 d i arg1 harg1 arg2 harg2 arg3 harg3 arg4 harg4 arg5 harg5 arg6 harg6 arg7 harg7 arg8 harg8 arg9 harg9 arg10 harg10 arg11 harg11 arg12 harg12 hc0 hc1 x w c s a b)]
  unfold kernelRun0_A
  dsimp only
  sl_unfold_words
  rw [View.canon_cons_unit_zero (S := S256x128) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay44 k0_pay43
  simp only [shapeCast_self]
  rfl

/-- At the first point: the running `g`. -/
theorem out0_A_7_eq (hc0 : cond0_0 i) (hc1 : ¬cond0_1 i) :
    out0_A_7 (F := F) d i arg1 harg1 arg2 harg2 arg3 harg3 arg4 harg4 arg5 harg5 arg6 harg6 arg7 harg7 arg8 harg8 arg9 harg9 arg10 harg10 arg11 harg11 arg12 harg12 hc0 hc1 x w c s a b = gStep (residTile x w c s (k0_pay3 x a) b) b k0_pay4 := by
  unfold out0_A_7
  rw [View.read_writes_eq_canon _ _ _ (cover0_A_7 d i arg1 harg1 arg2 harg2 arg3 harg3 arg4 harg4 arg5 harg5 arg6 harg6 arg7 harg7 arg8 harg8 arg9 harg9 arg10 harg10 arg11 harg11 arg12 harg12 hc0 hc1 x w c s a b)]
  unfold kernelRun0_A
  dsimp only
  sl_unfold_words
  rw [View.canon_cons_unit_zero (S := S256x48) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay46 k0_pay45 k0_pay43
  simp only [shapeCast_self]
  rfl

/-- At the first point: the tile of `d_b`. -/
theorem out0_A_9_eq (hc0 : cond0_0 i) (hc1 : ¬cond0_1 i) :
    out0_A_9 (F := F) d i arg1 harg1 arg2 harg2 arg3 harg3 arg4 harg4 arg5 harg5 arg6 harg6 arg7 harg7 arg8 harg8 arg9 harg9 arg10 harg10 arg11 harg11 arg12 harg12 hc0 hc1 x w c s a b = dbTile (k0_pay3 x a) (residTile x w c s (k0_pay3 x a) b) := by
  unfold out0_A_9
  rw [View.read_writes_eq_canon _ _ _ (cover0_A_9 d i arg1 harg1 arg2 harg2 arg3 harg3 arg4 harg4 arg5 harg5 arg6 harg6 arg7 harg7 arg8 harg8 arg9 harg9 arg10 harg10 arg11 harg11 arg12 harg12 hc0 hc1 x w c s a b)]
  unfold kernelRun0_A
  dsimp only
  sl_unfold_words
  rw [View.canon_unit_zero (S := S48x512) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay47 k0_pay45 k0_pay43
  simp only [shapeCast_self]
  rfl

/-- At a point in between: the lane sums. -/
theorem sout0_B_1_eq (hc0 : ¬cond0_0 i) (hc1 : ¬cond0_1 i) :
    sout0_B_1 (F := F) d i arg1 harg1 arg2 harg2 arg3 harg3 arg4 harg4 arg5 harg5 arg6 harg6 arg7 harg7 arg8 harg8 arg9 harg9 arg10 harg10 arg11 harg11 arg12 harg12 hc0 hc1 x w c s a b g pb lsum = lsumStep (residTile x w c s pb b) lsum := by
  unfold sout0_B_1
  rw [View.read_writes_eq_canon _ _ _ (scover0_B_1 d i arg1 harg1 arg2 harg2 arg3 harg3 arg4 harg4 arg5 harg5 arg6 harg6 arg7 harg7 arg8 harg8 arg9 harg9 arg10 harg10 arg11 harg11 arg12 harg12 hc0 hc1 x w c s a b g pb lsum)]
  unfold kernelRun0_B
  dsimp only
  sl_unfold_words
  rw [View.canon_unit_zero (S := S256x128) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay44 k0_pay43
  simp only [shapeCast_self]
  rfl

/-- At a point in between: the running `g`. -/
theorem out0_B_7_eq (hc0 : ¬cond0_0 i) (hc1 : ¬cond0_1 i) :
    out0_B_7 (F := F) d i arg1 harg1 arg2 harg2 arg3 harg3 arg4 harg4 arg5 harg5 arg6 harg6 arg7 harg7 arg8 harg8 arg9 harg9 arg10 harg10 arg11 harg11 arg12 harg12 hc0 hc1 x w c s a b g pb lsum = gStep (residTile x w c s pb b) b g := by
  unfold out0_B_7
  rw [View.read_writes_eq_canon _ _ _ (cover0_B_7 d i arg1 harg1 arg2 harg2 arg3 harg3 arg4 harg4 arg5 harg5 arg6 harg6 arg7 harg7 arg8 harg8 arg9 harg9 arg10 harg10 arg11 harg11 arg12 harg12 hc0 hc1 x w c s a b g pb lsum)]
  unfold kernelRun0_B
  dsimp only
  sl_unfold_words
  rw [View.canon_unit_zero (S := S256x48) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay46 k0_pay45 k0_pay43
  simp only [shapeCast_self]
  rfl

/-- At a point in between: the tile of `d_b`. -/
theorem out0_B_9_eq (hc0 : ¬cond0_0 i) (hc1 : ¬cond0_1 i) :
    out0_B_9 (F := F) d i arg1 harg1 arg2 harg2 arg3 harg3 arg4 harg4 arg5 harg5 arg6 harg6 arg7 harg7 arg8 harg8 arg9 harg9 arg10 harg10 arg11 harg11 arg12 harg12 hc0 hc1 x w c s a b g pb lsum = dbTile pb (residTile x w c s pb b) := by
  unfold out0_B_9
  rw [View.read_writes_eq_canon _ _ _ (cover0_B_9 d i arg1 harg1 arg2 harg2 arg3 harg3 arg4 harg4 arg5 harg5 arg6 harg6 arg7 harg7 arg8 harg8 arg9 harg9 arg10 harg10 arg11 harg11 arg12 harg12 hc0 hc1 x w c s a b g pb lsum)]
  unfold kernelRun0_B
  dsimp only
  sl_unfold_words
  rw [View.canon_unit_zero (S := S48x512) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay47 k0_pay45 k0_pay43
  simp only [shapeCast_self]
  rfl

/-- At the last point: the lane sums. -/
theorem sout0_C_1_eq (hc0 : ¬cond0_0 i) (hc1 : cond0_1 i) :
    sout0_C_1 (F := F) d i arg1 harg1 arg2 harg2 arg3 harg3 arg4 harg4 arg5 harg5 arg6 harg6 arg7 harg7 arg8 harg8 arg9 harg9 arg10 harg10 arg11 harg11 arg12 harg12 hc0 hc1 x w c s a b g pb lsum = lsumStep (residTile x w c s pb b) lsum := by
  unfold sout0_C_1
  rw [View.read_writes_eq_canon _ _ _ (scover0_C_1 d i arg1 harg1 arg2 harg2 arg3 harg3 arg4 harg4 arg5 harg5 arg6 harg6 arg7 harg7 arg8 harg8 arg9 harg9 arg10 harg10 arg11 harg11 arg12 harg12 hc0 hc1 x w c s a b g pb lsum)]
  unfold kernelRun0_C
  dsimp only
  sl_unfold_words
  rw [View.canon_unit_zero (S := S256x128) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay44 k0_pay43
  simp only [shapeCast_self]
  rfl

/-- At the last point: the running `g`. -/
theorem out0_C_7_eq (hc0 : ¬cond0_0 i) (hc1 : cond0_1 i) :
    out0_C_7 (F := F) d i arg1 harg1 arg2 harg2 arg3 harg3 arg4 harg4 arg5 harg5 arg6 harg6 arg7 harg7 arg8 harg8 arg9 harg9 arg10 harg10 arg11 harg11 arg12 harg12 hc0 hc1 x w c s a b g pb lsum = gStep (residTile x w c s pb b) b g := by
  unfold out0_C_7
  rw [View.read_writes_eq_canon _ _ _ (cover0_C_7 d i arg1 harg1 arg2 harg2 arg3 harg3 arg4 harg4 arg5 harg5 arg6 harg6 arg7 harg7 arg8 harg8 arg9 harg9 arg10 harg10 arg11 harg11 arg12 harg12 hc0 hc1 x w c s a b g pb lsum)]
  unfold kernelRun0_C
  dsimp only
  sl_unfold_words
  rw [View.canon_unit_zero (S := S256x48) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay46 k0_pay45 k0_pay43
  simp only [shapeCast_self]
  rfl

/-- At the last point: the tile of `d_b`. -/
theorem out0_C_9_eq (hc0 : ¬cond0_0 i) (hc1 : cond0_1 i) :
    out0_C_9 (F := F) d i arg1 harg1 arg2 harg2 arg3 harg3 arg4 harg4 arg5 harg5 arg6 harg6 arg7 harg7 arg8 harg8 arg9 harg9 arg10 harg10 arg11 harg11 arg12 harg12 hc0 hc1 x w c s a b g pb lsum = dbTile pb (residTile x w c s pb b) := by
  unfold out0_C_9
  rw [View.read_writes_eq_canon _ _ _ (cover0_C_9 d i arg1 harg1 arg2 harg2 arg3 harg3 arg4 harg4 arg5 harg5 arg6 harg6 arg7 harg7 arg8 harg8 arg9 harg9 arg10 harg10 arg11 harg11 arg12 harg12 hc0 hc1 x w c s a b g pb lsum)]
  unfold kernelRun0_C
  dsimp only
  sl_unfold_words
  rw [View.canon_unit_zero (S := S48x512) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay47 k0_pay45 k0_pay43
  simp only [shapeCast_self]
  rfl

/-- At the last point: the loss. -/
theorem out0_C_6_eq (hc0 : ¬cond0_0 i) (hc1 : cond0_1 i) :
    out0_C_6 (F := F) d i arg1 harg1 arg2 harg2 arg3 harg3 arg4 harg4 arg5 harg5 arg6 harg6 arg7 harg7 arg8 harg8 arg9 harg9 arg10 harg10 arg11 harg11 arg12 harg12 hc0 hc1 x w c s a b g pb lsum = k0_pay1 (lsumStep (residTile x w c s pb b) lsum) := by
  unfold out0_C_6
  rw [View.read_writes_eq_canon _ _ _ (cover0_C_6 d i arg1 harg1 arg2 harg2 arg3 harg3 arg4 harg4 arg5 harg5 arg6 harg6 arg7 harg7 arg8 harg8 arg9 harg9 arg10 harg10 arg11 harg11 arg12 harg12 hc0 hc1 x w c s a b g pb lsum)]
  unfold kernelRun0_C
  dsimp only
  sl_unfold_words
  rw [View.canon_unit_zero (S := S256x1) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay44 k0_pay43
  simp only [shapeCast_self]
  rfl

/-- At the last point: `d_a`. -/
theorem out0_C_8_eq (hc0 : ¬cond0_0 i) (hc1 : cond0_1 i) :
    out0_C_8 (F := F) d i arg1 harg1 arg2 harg2 arg3 harg3 arg4 harg4 arg5 harg5 arg6 harg6 arg7 harg7 arg8 harg8 arg9 harg9 arg10 harg10 arg11 harg11 arg12 harg12 hc0 hc1 x w c s a b g pb lsum = k0_pay2 x (gStep (residTile x w c s pb b) b g) := by
  unfold out0_C_8
  rw [View.read_writes_eq_canon _ _ _ (cover0_C_8 d i arg1 harg1 arg2 harg2 arg3 harg3 arg4 harg4 arg5 harg5 arg6 harg6 arg7 harg7 arg8 harg8 arg9 harg9 arg10 harg10 arg11 harg11 arg12 harg12 hc0 hc1 x w c s a b g pb lsum)]
  unfold kernelRun0_C
  dsimp only
  sl_unfold_words
  rw [View.canon_unit_zero (S := S2560x48) zeros]
  simp only [View.readCov_unit_zero (S := S256x48) _ zeros, View.readCov_unit_zero (S := S256x128) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S256x2560) zeros, View.ld_unit_zero (S := S48x512) zeros, View.ld_unit_zero (S := S256x48) zeros, View.ld_unit_zero (S := S256x128) zeros, View.ld_unit_zero (S := S2560x48) zeros]
  unfold k0_pay46 k0_pay45 k0_pay43
  simp only [shapeCast_self]
  rfl

end Cases

end Cert.Fit
-- ==== Proof.Formula.lean ====
/-
  The mathematics both programs compute, over the extended reals, on arrays read as functions of their coordinates.
  The tokens of the two sequences stand in one row of 256.
-/
module

public import proofs.«01_k».proof.Proof.Tile

@[expose] public section

set_option maxRecDepth 16384

noncomputable section

namespace Cert.Fit

open Idealize.ShloMosaic

/-- Minus two, as the kernel and the reference both write it. -/
abbrev minusTwo : EReal := Ideal.ofBits .f32 0xC0000000#32

/-- The six arguments: activations, weights, packed codes, scales and the two factors of the correction. -/
structure Inputs where
  /-- The activation of a token. -/
  x : Fin 256 → Fin 2560 → EReal
  /-- The weights. -/
  w : Fin 2560 → Fin 10240 → EReal
  /-- The packed codes, two to a byte. -/
  c : Fin 1280 → Fin 10240 → BitVec 8
  /-- The scales, one to a group of 128 rows. -/
  s : Fin 20 → Fin 10240 → EReal
  /-- The left factor. -/
  a : Fin 2560 → Fin 48 → EReal
  /-- The right factor. -/
  b : Fin 48 → Fin 10240 → EReal

namespace Inputs

variable (D : Inputs)

/-- The activations through the left factor. -/
def pb (i : Fin 256) (q : Fin 48) : EReal := ∑ k : Fin 2560, D.x i k * D.a k q

/-- The residual of a token at an output column: activations through the quantisation error, less the correction. -/
def r (i : Fin 256) (n : Fin 10240) : EReal :=
  resid (D.x i) (D.pb i) (fun k => D.w k n) (fun k => D.c k n) (fun g => D.s g n) (fun q => D.b q n)

/-- The loss of a token. -/
def loss (i : Fin 256) : EReal := ∑ n : Fin 10240, D.r i n * D.r i n

/-- The residual through the right factor. -/
def g (i : Fin 256) (q : Fin 48) : EReal := ∑ n : Fin 10240, D.r i n * D.b q n

/-- The gradient of the left factor. -/
def da (k : Fin 2560) (q : Fin 48) : EReal := minusTwo * ∑ i : Fin 256, D.x i k * D.g i q

/-- The gradient of the right factor. -/
def db (q : Fin 48) (n : Fin 10240) : EReal := minusTwo * ∑ i : Fin 256, D.pb i q * D.r i n

end Inputs

/-- The arguments of either program as `Inputs`: token `i` is position `i % 128` of sequence `i / 128`. -/
def inputs (x : FVec Ideal ⟨3, ![2, 128, 2560]⟩ .bf16) (w : FVec Ideal ⟨2, ![2560, 10240]⟩ .bf16)
    (c : IVec ⟨2, ![1280, 10240]⟩ 8) (s : FVec Ideal ⟨2, ![20, 10240]⟩ .bf16)
    (a : FVec Ideal ⟨2, ![2560, 48]⟩ .bf16) (b : FVec Ideal ⟨2, ![48, 10240]⟩ .bf16) : Inputs where
  x := fun i k => x (ix3 ⟨i.val / 128, by omega⟩ ⟨i.val % 128, by omega⟩ k)
  w := fun k n => w (ix2 k n)
  c := fun k n => c (ix2 k n)
  s := fun g n => s (ix2 g n)
  a := fun k q => a (ix2 k q)
  b := fun q n => b (ix2 q n)

/-- A sum over the output columns, tile by tile. -/
theorem sum_tiles {M : Type} [AddCommMonoid M] (f : Fin 10240 → M) :
    ∑ n : Fin 10240, f n = ∑ t : Fin 20, ∑ l : Fin 512, f ⟨512 * t.val + l.val, by omega⟩ := by
  rw [← Fintype.sum_prod_type', ← (finProdFinEquiv (m := 20) (n := 512)).sum_comp]
  refine Finset.sum_congr rfl fun p _ => congrArg f (Fin.ext ?_)
  show p.2.val + 512 * p.1.val = 512 * p.1.val + p.2.val
  omega

/-- A sum over a tile's columns, lane by lane. -/
theorem sum_lanes {M : Type} [AddCommMonoid M] (f : Fin 512 → M) :
    ∑ l : Fin 512, f l = ∑ z : Fin 128, ∑ p : Fin 4, f ⟨128 * p.val + z.val, by omega⟩ := by
  rw [Finset.sum_comm, ← Fintype.sum_prod_type', ← (finProdFinEquiv (m := 4) (n := 128)).sum_comp]
  refine Finset.sum_congr rfl fun p _ => congrArg f (Fin.ext ?_)
  show p.2.val + 128 * p.1.val = 128 * p.1.val + p.2.val
  omega

/-- A sum over the tokens, sequence by sequence. -/
theorem sum_tokens {M : Type} [AddCommMonoid M] (f : Fin 256 → M) :
    ∑ i : Fin 256, f i = ∑ u : Fin 2, ∑ v : Fin 128, f ⟨128 * u.val + v.val, by omega⟩ := by
  rw [← Fintype.sum_prod_type', ← (finProdFinEquiv (m := 2) (n := 128)).sum_comp]
  refine Finset.sum_congr rfl fun p _ => congrArg f (Fin.ext ?_)
  show p.2.val + 128 * p.1.val = 128 * p.1.val + p.2.val
  omega

end Cert.Fit
-- ==== Proof.StepsAt.lean ====
/-
  One grid point's updates at an element, over the extended reals: sums and products of the elements of the tile's residual.
-/
module

public import proofs.«01_k».proof.Proof.Steps
public import proofs.«01_k».proof.Proof.Formula

@[expose] public section

set_option maxRecDepth 16384

noncomputable section

namespace Cert.Fit

open Idealize.ShloMosaic Cert.KernelIdeal Cert.KernelIdeal.Gen

/-- `pb` at an element: a row of `x` against a column of `a`. -/
theorem pb_apply (x : FVec Ideal S256x2560 .bf16) (a : FVec Ideal S2560x48 .bf16) (i : Fin 256) (q : Fin 48) :
    k0_pay3 (F := Ideal) x a (ix2 i q) = ∑ k : Fin 2560, x (ix2 i k) * a (ix2 k q) := by
  pointwise [k0_pay3]

/-- The cleared running `g` is zero. -/
theorem gZero_apply (i : Fin 256) (q : Fin 48) : k0_pay4 (F := Ideal) (ix2 i q) = 0 := by
  pointwise [k0_pay4]

/-- The cleared lane sums are zero. -/
theorem lsumZero_apply (i : Fin 256) (z : Fin 128) : k0_pay5 (F := Ideal) (ix2 i z) = 0 := by
  pointwise [k0_pay5]

/-- The lane sums after a tile: lane `z` gains the squares of columns `z`, `128 + z`, `256 + z` and `384 + z`. -/
theorem lsumStep_apply (r : FVec Ideal S256x512 .f32) (lsum : FVec Ideal S256x128 .f32) (i : Fin 256) (z : Fin 128) :
    lsumStep (F := Ideal) r lsum (ix2 i z) = lsum (ix2 i z)
      + ∑ p : Fin 4, r (ix2 i ⟨128 * p + z, by omega⟩) * r (ix2 i ⟨128 * p + z, by omega⟩) := by
  rw [Fin.sum_univ_four]
  pointwise [lsumStep]

/-- The running `g` after a tile: its element gains the tile's residual row against the tile's row of `b`. -/
theorem gStep_apply (r : FVec Ideal S256x512 .f32) (b : FVec Ideal S48x512 .bf16) (g : FVec Ideal S256x48 .f32) (i : Fin 256) (q : Fin 48) :
    gStep (F := Ideal) r b g (ix2 i q) = g (ix2 i q) + ∑ l : Fin 512, r (ix2 i l) * b (ix2 q l) := by
  pointwise [gStep]

/-- The tile of `d_b` at an element. -/
theorem dbTile_apply (pb : FVec Ideal S256x48 .bf16) (r : FVec Ideal S256x512 .f32) (q : Fin 48) (l : Fin 512) :
    dbTile (F := Ideal) pb r (ix2 q l) = minusTwo * ∑ i : Fin 256, pb (ix2 i q) * r (ix2 i l) := by
  pointwise [dbTile]

/-- The loss at a token: the sum of its lane sums. -/
theorem loss_apply (lsum : FVec Ideal S256x128 .f32) (i : Fin 256) (z : Fin 1) :
    k0_pay1 (F := Ideal) lsum (ix2 i z) = ∑ l : Fin 128, lsum (ix2 i l) := by
  pointwise [k0_pay1]

/-- `d_a` at an element: minus two times a column of `x` against a column of `g`, over the tokens. -/
theorem da_apply (x : FVec Ideal S256x2560 .bf16) (g : FVec Ideal S256x48 .f32) (k : Fin 2560) (q : Fin 48) :
    k0_pay2 (F := Ideal) x g (ix2 k q) = minusTwo * ∑ i : Fin 256, x (ix2 i k) * g (ix2 i q) := by
  pointwise [k0_pay2]

end Cert.Fit
-- ==== Proof.Arrays.lean ====
/-
  What a grid point finds in its windows: column `l` of the point's slice is column `512 t + l` of the whole array, and two windows hold whole arrays.
-/
module

public import proofs.«01_k».proof.Proof.StepsAt
public import proofs.«01_k».proof.Proof.Gen.KernelIdeal.Value

@[expose] public section

set_option maxRecDepth 16384

noncomputable section

namespace Cert.Fit

open Idealize.ShloMosaic Idealize.SL.Sem Cert.KernelIdeal Cert.KernelIdeal.Gen

variable (m : (ℓ : Loc nD τ sig) → Buf (Elt Ideal) ℓ) (c : Dev nD)

/-- Window 0's block index is zero on both axes at every point. -/
theorem index0 : ∀ (t : Fin grid0.N) (a : Fin 2), cc0_transform_0 (grid0.coords t) a = 0 := by decide +kernel
/-- Window 1's block is the whole height, column block `t`. -/
theorem index1 : ∀ t : Fin grid0.N, cc0_transform_1 (grid0.coords t) 0 = 0 ∧ cc0_transform_1 (grid0.coords t) 1 = t.val := by decide +kernel
/-- Window 2's block is the whole height, column block `t`. -/
theorem index2 : ∀ t : Fin grid0.N, cc0_transform_2 (grid0.coords t) 0 = 0 ∧ cc0_transform_2 (grid0.coords t) 1 = t.val := by decide +kernel
/-- Window 3's block is the whole height, column block `t`. -/
theorem index3 : ∀ t : Fin grid0.N, cc0_transform_3 (grid0.coords t) 0 = 0 ∧ cc0_transform_3 (grid0.coords t) 1 = t.val := by decide +kernel
/-- Window 4's block index is zero on both axes at every point. -/
theorem index4 : ∀ (t : Fin grid0.N) (a : Fin 2), cc0_transform_4 (grid0.coords t) a = 0 := by decide +kernel
/-- Window 5's block is the whole height, column block `t`. -/
theorem index5 : ∀ t : Fin grid0.N, cc0_transform_5 (grid0.coords t) 0 = 0 ∧ cc0_transform_5 (grid0.coords t) 1 = t.val := by decide +kernel

/-- Column `l` of slice `t`. -/
def col (t : Fin cfg0.N) (l : Fin 512) : Fin 10240 :=
  ⟨512 * t.val + l.val, by have : t.val < 20 := lt_of_lt_of_eq t.isLt N_0; omega⟩

/-- The point's weights. -/
theorem iblk1_apply (t : Fin cfg0.N) (k : Fin 2560) (l : Fin 512) :
    (iblk m c 1 t : FVec Ideal S2560x512 .bf16) (ix2 k l) = (m (c.tc.loc main_arg1) : FVec Ideal S2560x10240 .bf16) (ix2 k (col t l)) := by
  unfold iblk
  rw [View.read_apply]
  show V m c main_arg1 _ = _
  refine congrArg (m (c.tc.loc main_arg1)) (funext fun a => Fin.ext ?_)
  match a with
  | 0 => show cc0_transform_1 (grid0.coords t) 0 * 2560 + 1 * k.val = k.val
         rw [(index1 t).1]; omega
  | 1 => show cc0_transform_1 (grid0.coords t) 1 * 512 + 1 * l.val = 512 * t.val + l.val
         rw [(index1 t).2]; omega

/-- The point's packed codes. -/
theorem iblk2_apply (t : Fin cfg0.N) (k : Fin 1280) (l : Fin 512) :
    (iblk m c 2 t : IVec S1280x512 8) (ix2 k l) = (m (c.tc.loc main_arg2) : IVec S1280x10240 8) (ix2 k (col t l)) := by
  unfold iblk
  rw [View.read_apply]
  show V m c main_arg2 _ = _
  refine congrArg (m (c.tc.loc main_arg2)) (funext fun a => Fin.ext ?_)
  match a with
  | 0 => show cc0_transform_2 (grid0.coords t) 0 * 1280 + 1 * k.val = k.val
         rw [(index2 t).1]; omega
  | 1 => show cc0_transform_2 (grid0.coords t) 1 * 512 + 1 * l.val = 512 * t.val + l.val
         rw [(index2 t).2]; omega

/-- The point's scales. -/
theorem iblk3_apply (t : Fin cfg0.N) (k : Fin 20) (l : Fin 512) :
    (iblk m c 3 t : FVec Ideal S20x512 .bf16) (ix2 k l) = (m (c.tc.loc main_arg3) : FVec Ideal S20x10240 .bf16) (ix2 k (col t l)) := by
  unfold iblk
  rw [View.read_apply]
  show V m c main_arg3 _ = _
  refine congrArg (m (c.tc.loc main_arg3)) (funext fun a => Fin.ext ?_)
  match a with
  | 0 => show cc0_transform_3 (grid0.coords t) 0 * 20 + 1 * k.val = k.val
         rw [(index3 t).1]; omega
  | 1 => show cc0_transform_3 (grid0.coords t) 1 * 512 + 1 * l.val = 512 * t.val + l.val
         rw [(index3 t).2]; omega

/-- The point's columns of the right factor. -/
theorem iblk5_apply (t : Fin cfg0.N) (k : Fin 48) (l : Fin 512) :
    (iblk m c 5 t : FVec Ideal S48x512 .bf16) (ix2 k l) = (m (c.tc.loc main_arg5) : FVec Ideal S48x10240 .bf16) (ix2 k (col t l)) := by
  unfold iblk
  rw [View.read_apply]
  show V m c main_arg5 _ = _
  refine congrArg (m (c.tc.loc main_arg5)) (funext fun a => Fin.ext ?_)
  match a with
  | 0 => show cc0_transform_5 (grid0.coords t) 0 * 48 + 1 * k.val = k.val
         rw [(index5 t).1]; omega
  | 1 => show cc0_transform_5 (grid0.coords t) 1 * 512 + 1 * l.val = 512 * t.val + l.val
         rw [(index5 t).2]; omega

/-- Every point finds the whole left factor. -/
theorem iblk4_apply (t : Fin cfg0.N) (k : Fin 2560) (q : Fin 48) :
    (iblk m c 4 t : FVec Ideal S2560x48 .bf16) (ix2 k q) = (m (c.tc.loc main_arg4) : FVec Ideal S2560x48 .bf16) (ix2 k q) := by
  unfold iblk
  rw [View.read_apply]
  show V m c main_arg4 _ = _
  refine congrArg (m (c.tc.loc main_arg4)) (funext fun a => Fin.ext ?_)
  match a with
  | 0 => show cc0_transform_4 (grid0.coords t) 0 * 2560 + 1 * k.val = k.val
         rw [index4 t 0]; omega
  | 1 => show cc0_transform_4 (grid0.coords t) 1 * 48 + 1 * q.val = q.val
         rw [index4 t 1]; omega

/-- The two sequences laid in one row of tokens: row `i` is position `i % 128` of sequence `i / 128`. -/
theorem rows_apply (x : FVec Ideal S2x128x2560 .bf16) (i : Fin 256) (k : Fin 2560) :
    shapeCast S256x2560 x shapeCasts_S2x128x2560_S256x2560 (ix2 i k)
      = x (ix3 ⟨i.val / 128, by omega⟩ ⟨i.val % 128, by omega⟩ k) := by
  pointwise

/-- Every point finds all the activations. -/
theorem iblk0_apply (t : Fin cfg0.N) (i : Fin 256) (k : Fin 2560) :
    (iblk m c 0 t : FVec Ideal S256x2560 .bf16) (ix2 i k)
      = (m (c.tc.loc main_arg0) : FVec Ideal S2x128x2560 .bf16) (ix3 ⟨i.val / 128, by omega⟩ ⟨i.val % 128, by omega⟩ k) := by
  refine Eq.trans ?_ (rows_apply (m (c.tc.loc main_arg0)) i k)
  unfold iblk
  rw [View.read_apply]
  show shapeCast S256x2560 (m (c.tc.loc main_arg0)) shapeCasts_S2x128x2560_S256x2560 _ = _
  refine congrArg (shapeCast S256x2560 (m (c.tc.loc main_arg0)) shapeCasts_S2x128x2560_S256x2560) (funext fun a => Fin.ext ?_)
  match a with
  | 0 => show cc0_transform_0 (grid0.coords t) 0 * 256 + 1 * i.val = i.val
         rw [index0 t 0]; omega
  | 1 => show cc0_transform_0 (grid0.coords t) 1 * 2560 + 1 * k.val = k.val
         rw [index0 t 1]; omega

end Cert.Fit
-- ==== Proof.Sweep.lean ====
/-
  The sweep over the twenty grid points: after point `n` the running buffers hold the sums over tiles `0 … n`.
-/
module

public import proofs.«01_k».proof.Proof.Arrays

@[expose] public section

set_option maxRecDepth 16384

noncomputable section

namespace Cert.Fit

open Idealize.ShloMosaic Idealize.SL.Sem Cert.KernelIdeal Cert.KernelIdeal.Gen

variable (m : (ℓ : Loc nD τ sig) → Buf (Elt Ideal) ℓ) (c : Dev nD)

/-- The kernel's arguments in memory. -/
def data : Inputs :=
  inputs (m (c.tc.loc main_arg0)) (m (c.tc.loc main_arg1)) (m (c.tc.loc main_arg2)) (m (c.tc.loc main_arg3)) (m (c.tc.loc main_arg4))
    (m (c.tc.loc main_arg5))

/-! ## Sums over the tiles so far -/

/-- The term of tile `t`, nothing past the last. -/
def part (f : Fin cfg0.N → EReal) (t : ℕ) : EReal := if h : t < cfg0.N then f ⟨t, h⟩ else 0

/-- The sum over tiles `0 … n`. -/
def upTo (f : Fin cfg0.N → EReal) (n : ℕ) : EReal := ∑ t ∈ Finset.range (n + 1), part f t

/-- At the first tile: its term alone. -/
theorem upTo_first (f : Fin cfg0.N → EReal) (t : Fin cfg0.N) (ht : t.val = 0) : upTo f t.val = f t := by
  unfold upTo part
  rw [ht, Finset.sum_range_one, dif_pos (ht ▸ t.isLt)]
  exact congrArg f (Fin.ext ht.symm)

/-- At a later tile: the sum before it and its term. -/
theorem upTo_step (f : Fin cfg0.N → EReal) (t : Fin cfg0.N) (ht : t.val ≠ 0) : upTo f t.val = upTo f (t.val - 1) + f t := by
  unfold upTo
  rw [Finset.sum_range_succ, show t.val - 1 + 1 = t.val by omega]
  refine congrArg (_ + ·) ?_
  unfold part
  rw [dif_pos t.isLt]

/-- At the last tile: the sum over all twenty. -/
theorem upTo_last (f : Fin cfg0.N → EReal) : upTo f 19 = ∑ t : Fin 20, f ⟨t.val, lt_of_lt_of_eq t.isLt N_0.symm⟩ := by
  unfold upTo
  rw [Finset.sum_range]
  refine Finset.sum_congr rfl fun t _ => ?_
  unfold part
  rw [dif_pos (lt_of_lt_of_eq t.isLt N_0.symm)]

/-! ## One tile -/

/-- The point's `pb` is the mathematics' `pb`. -/
theorem pb_eq (t : Fin cfg0.N) (i : Fin 256) (q : Fin 48) :
    k0_pay3 (F := Ideal) (iblk m c 0 t) (iblk m c 4 t) (ix2 i q) = (data m c).pb i q := by
  rw [pb_apply]
  refine Finset.sum_congr rfl fun k _ => ?_
  rw [iblk0_apply, iblk4_apply]
  rfl

/-- The tile's residual is the mathematics' residual at the tile's columns. -/
theorem resid_eq (t : Fin cfg0.N) (pb : FVec Ideal S256x48 .bf16) (hpb : ∀ i q, pb (ix2 i q) = (data m c).pb i q)
    (i : Fin 256) (l : Fin 512) :
    residTile (F := Ideal) (iblk m c 0 t) (iblk m c 1 t) (iblk m c 2 t) (iblk m c 3 t) pb (iblk m c 5 t) (ix2 i l) = (data m c).r i (col t l) := by
  rw [residTile_apply]
  simp only [iblk0_apply, iblk1_apply, iblk2_apply, iblk3_apply, iblk5_apply, hpb]
  rfl

/-- What tile `t` adds to the running `g`. -/
def gPart (i : Fin 256) (q : Fin 48) (t : Fin cfg0.N) : EReal :=
  ∑ l : Fin 512, (data m c).r i (col t l) * (data m c).b q (col t l)

/-- What tile `t` adds to lane `z`. -/
def lsumPart (i : Fin 256) (z : Fin 128) (t : Fin cfg0.N) : EReal :=
  ∑ p : Fin 4, (data m c).r i (col t ⟨128 * p + z, by omega⟩) * (data m c).r i (col t ⟨128 * p + z, by omega⟩)

/-- The running `g` gains the tile's part. -/
theorem gStep_eq (t : Fin cfg0.N) (pb : FVec Ideal S256x48 .bf16) (hpb : ∀ i q, pb (ix2 i q) = (data m c).pb i q)
    (g : FVec Ideal S256x48 .f32) (i : Fin 256) (q : Fin 48) :
    gStep (F := Ideal) (residTile (iblk m c 0 t) (iblk m c 1 t) (iblk m c 2 t) (iblk m c 3 t) pb (iblk m c 5 t)) (iblk m c 5 t) g (ix2 i q) = g (ix2 i q) + gPart m c i q t := by
  rw [gStep_apply]
  refine congrArg (g (ix2 i q) + ·) (Finset.sum_congr rfl fun l _ => ?_)
  rw [resid_eq m c t pb hpb, iblk5_apply]
  rfl

/-- The lane sums gain the tile's part. -/
theorem lsumStep_eq (t : Fin cfg0.N) (pb : FVec Ideal S256x48 .bf16) (hpb : ∀ i q, pb (ix2 i q) = (data m c).pb i q)
    (lsum : FVec Ideal S256x128 .f32) (i : Fin 256) (z : Fin 128) :
    lsumStep (F := Ideal) (residTile (iblk m c 0 t) (iblk m c 1 t) (iblk m c 2 t) (iblk m c 3 t) pb (iblk m c 5 t)) lsum (ix2 i z) = lsum (ix2 i z) + lsumPart m c i z t := by
  rw [lsumStep_apply]
  simp only [resid_eq m c t pb hpb]
  rfl

/-- The tile of `d_b` is the mathematics' gradient at the tile's columns. -/
theorem dbTile_eq (t : Fin cfg0.N) (pb : FVec Ideal S256x48 .bf16) (hpb : ∀ i q, pb (ix2 i q) = (data m c).pb i q)
    (q : Fin 48) (l : Fin 512) :
    dbTile (F := Ideal) pb (residTile (iblk m c 0 t) (iblk m c 1 t) (iblk m c 2 t) (iblk m c 3 t) pb (iblk m c 5 t)) (ix2 q l) = (data m c).db q (col t l) := by
  rw [dbTile_apply]
  simp only [resid_eq m c t pb hpb, hpb]
  rfl

/-! ## What each kind of point leaves -/

/-- The first point computes `pb`. -/
theorem pb_first (t : Fin cfg0.N) (h0 : t.val % 20 = 0) (h1 : ¬t.val % 20 = 19) :
    (outsAt0 m c t.val t.isLt).2.2.2.2.1 = (k0_pay3 (F := Ideal) (iblk m c 0 t) (iblk m c 4 t)) := by
  rw [outsAt0_A m c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))

/-- The first point starts the running `g`. -/
theorem g_first (t : Fin cfg0.N) (h0 : t.val % 20 = 0) (h1 : ¬t.val % 20 = 19) :
    (outsAt0 m c t.val t.isLt).2.1 = gStep (F := Ideal) (residTile (F := Ideal) (iblk m c 0 t) (iblk m c 1 t) (iblk m c 2 t) (iblk m c 3 t) (k0_pay3 (F := Ideal) (iblk m c 0 t) (iblk m c 4 t)) (iblk m c 5 t)) (iblk m c 5 t) (k0_pay4 (F := Ideal)) := by
  rw [outsAt0_A m c t h0 h1]
  dsimp only
  exact out0_A_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))

/-- The first point starts the lane sums. -/
theorem lsum_first (t : Fin cfg0.N) (h0 : t.val % 20 = 0) (h1 : ¬t.val % 20 = 19) :
    (outsAt0 m c t.val t.isLt).2.2.2.2.2 = lsumStep (F := Ideal) (residTile (F := Ideal) (iblk m c 0 t) (iblk m c 1 t) (iblk m c 2 t) (iblk m c 3 t) (k0_pay3 (F := Ideal) (iblk m c 0 t) (iblk m c 4 t)) (iblk m c 5 t)) (k0_pay5 (F := Ideal)) := by
  rw [outsAt0_A m c t h0 h1]
  dsimp only
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))

/-- The first point writes its tile of `d_b`. -/
theorem db_first (t : Fin cfg0.N) (h0 : t.val % 20 = 0) (h1 : ¬t.val % 20 = 19) :
    (outsAt0 m c t.val t.isLt).2.2.2.1 = dbTile (F := Ideal) (k0_pay3 (F := Ideal) (iblk m c 0 t) (iblk m c 4 t)) (residTile (F := Ideal) (iblk m c 0 t) (iblk m c 1 t) (iblk m c 2 t) (iblk m c 3 t) (k0_pay3 (F := Ideal) (iblk m c 0 t) (iblk m c 4 t)) (iblk m c 5 t)) := by
  rw [outsAt0_A m c t h0 h1]
  dsimp only
  exact out0_A_9_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))

/-- A middle point keeps `pb`. -/
theorem pb_middle (t : Fin cfg0.N) (h0 : ¬t.val % 20 = 0) (h1 : ¬t.val % 20 = 19) :
    (outsAt0 m c t.val t.isLt).2.2.2.2.1 = (outsAt0 m c (t.val - 1) (Nat.lt_of_le_of_lt (Nat.sub_le _ _) t.isLt)).2.2.2.2.1 := by
  rw [outsAt0_B m c t h0 h1]
  exact rfl

/-- A middle point adds to the running `g`. -/
theorem g_middle (t : Fin cfg0.N) (h0 : ¬t.val % 20 = 0) (h1 : ¬t.val % 20 = 19) :
    (outsAt0 m c t.val t.isLt).2.1 = gStep (F := Ideal) (residTile (F := Ideal) (iblk m c 0 t) (iblk m c 1 t) (iblk m c 2 t) (iblk m c 3 t) (outsAt0 m c (t.val - 1) (Nat.lt_of_le_of_lt (Nat.sub_le _ _) t.isLt)).2.2.2.2.1 (iblk m c 5 t)) (iblk m c 5 t) (outsAt0 m c (t.val - 1) (Nat.lt_of_le_of_lt (Nat.sub_le _ _) t.isLt)).2.1 := by
  rw [outsAt0_B m c t h0 h1]
  dsimp only
  exact out0_B_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- A middle point adds to the lane sums. -/
theorem lsum_middle (t : Fin cfg0.N) (h0 : ¬t.val % 20 = 0) (h1 : ¬t.val % 20 = 19) :
    (outsAt0 m c t.val t.isLt).2.2.2.2.2 = lsumStep (F := Ideal) (residTile (F := Ideal) (iblk m c 0 t) (iblk m c 1 t) (iblk m c 2 t) (iblk m c 3 t) (outsAt0 m c (t.val - 1) (Nat.lt_of_le_of_lt (Nat.sub_le _ _) t.isLt)).2.2.2.2.1 (iblk m c 5 t)) (outsAt0 m c (t.val - 1) (Nat.lt_of_le_of_lt (Nat.sub_le _ _) t.isLt)).2.2.2.2.2 := by
  rw [outsAt0_B m c t h0 h1]
  dsimp only
  exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- A middle point writes its tile of `d_b`. -/
theorem db_middle (t : Fin cfg0.N) (h0 : ¬t.val % 20 = 0) (h1 : ¬t.val % 20 = 19) :
    (outsAt0 m c t.val t.isLt).2.2.2.1 = dbTile (F := Ideal) (outsAt0 m c (t.val - 1) (Nat.lt_of_le_of_lt (Nat.sub_le _ _) t.isLt)).2.2.2.2.1 (residTile (F := Ideal) (iblk m c 0 t) (iblk m c 1 t) (iblk m c 2 t) (iblk m c 3 t) (outsAt0 m c (t.val - 1) (Nat.lt_of_le_of_lt (Nat.sub_le _ _) t.isLt)).2.2.2.2.1 (iblk m c 5 t)) := by
  rw [outsAt0_B m c t h0 h1]
  dsimp only
  exact out0_B_9_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- The last point keeps `pb`. -/
theorem pb_last (t : Fin cfg0.N) (h0 : ¬t.val % 20 = 0) (h1 : t.val % 20 = 19) :
    (outsAt0 m c t.val t.isLt).2.2.2.2.1 = (outsAt0 m c (t.val - 1) (Nat.lt_of_le_of_lt (Nat.sub_le _ _) t.isLt)).2.2.2.2.1 := by
  rw [outsAt0_C m c t h0 h1]
  exact rfl

/-- The last point adds to the running `g`. -/
theorem g_last (t : Fin cfg0.N) (h0 : ¬t.val % 20 = 0) (h1 : t.val % 20 = 19) :
    (outsAt0 m c t.val t.isLt).2.1 = gStep (F := Ideal) (residTile (F := Ideal) (iblk m c 0 t) (iblk m c 1 t) (iblk m c 2 t) (iblk m c 3 t) (outsAt0 m c (t.val - 1) (Nat.lt_of_le_of_lt (Nat.sub_le _ _) t.isLt)).2.2.2.2.1 (iblk m c 5 t)) (iblk m c 5 t) (outsAt0 m c (t.val - 1) (Nat.lt_of_le_of_lt (Nat.sub_le _ _) t.isLt)).2.1 := by
  rw [outsAt0_C m c t h0 h1]
  dsimp only
  exact out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- The last point adds to the lane sums. -/
theorem lsum_last (t : Fin cfg0.N) (h0 : ¬t.val % 20 = 0) (h1 : t.val % 20 = 19) :
    (outsAt0 m c t.val t.isLt).2.2.2.2.2 = lsumStep (F := Ideal) (residTile (F := Ideal) (iblk m c 0 t) (iblk m c 1 t) (iblk m c 2 t) (iblk m c 3 t) (outsAt0 m c (t.val - 1) (Nat.lt_of_le_of_lt (Nat.sub_le _ _) t.isLt)).2.2.2.2.1 (iblk m c 5 t)) (outsAt0 m c (t.val - 1) (Nat.lt_of_le_of_lt (Nat.sub_le _ _) t.isLt)).2.2.2.2.2 := by
  rw [outsAt0_C m c t h0 h1]
  dsimp only
  exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- The last point writes its tile of `d_b`. -/
theorem db_last (t : Fin cfg0.N) (h0 : ¬t.val % 20 = 0) (h1 : t.val % 20 = 19) :
    (outsAt0 m c t.val t.isLt).2.2.2.1 = dbTile (F := Ideal) (outsAt0 m c (t.val - 1) (Nat.lt_of_le_of_lt (Nat.sub_le _ _) t.isLt)).2.2.2.2.1 (residTile (F := Ideal) (iblk m c 0 t) (iblk m c 1 t) (iblk m c 2 t) (iblk m c 3 t) (outsAt0 m c (t.val - 1) (Nat.lt_of_le_of_lt (Nat.sub_le _ _) t.isLt)).2.2.2.2.1 (iblk m c 5 t)) := by
  rw [outsAt0_C m c t h0 h1]
  dsimp only
  exact out0_C_9_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- The last point writes the loss from the lane sums it leaves. -/
theorem loss_last (t : Fin cfg0.N) (h0 : ¬t.val % 20 = 0) (h1 : t.val % 20 = 19) :
    (outsAt0 m c t.val t.isLt).1 = k0_pay1 (F := Ideal) (outsAt0 m c t.val t.isLt).2.2.2.2.2 := by
  rw [lsum_last m c t h0 h1]
  rw [outsAt0_C m c t h0 h1]
  dsimp only
  exact out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- The last point writes `d_a` from the running `g` it leaves. -/
theorem da_last (t : Fin cfg0.N) (h0 : ¬t.val % 20 = 0) (h1 : t.val % 20 = 19) :
    (outsAt0 m c t.val t.isLt).2.2.1 = k0_pay2 (F := Ideal) (iblk m c 0 t) (outsAt0 m c t.val t.isLt).2.1 := by
  rw [g_last m c t h0 h1]
  rw [outsAt0_C m c t h0 h1]
  dsimp only
  exact out0_C_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-! ## The sweep -/

/-- What the buffers hold after point `n`. -/
structure After (n : ℕ) (h : n < cfg0.N) : Prop where
  /-- `pb` is complete from the first point on. -/
  pb : ∀ (i : Fin 256) (q : Fin 48), ((outsAt0 m c n h).2.2.2.2.1 : FVec Ideal S256x48 .bf16) (ix2 i q) = (data m c).pb i q
  /-- The running `g` is the sum over the tiles so far. -/
  g : ∀ (i : Fin 256) (q : Fin 48), ((outsAt0 m c n h).2.1 : FVec Ideal S256x48 .f32) (ix2 i q) = upTo (gPart m c i q) n
  /-- So are the lane sums. -/
  lsum : ∀ (i : Fin 256) (z : Fin 128), ((outsAt0 m c n h).2.2.2.2.2 : FVec Ideal S256x128 .f32) (ix2 i z) = upTo (lsumPart m c i z) n
  /-- The tile of `d_b` just written. -/
  db : ∀ (q : Fin 48) (l : Fin 512), ((outsAt0 m c n h).2.2.2.1 : FVec Ideal S48x512 .f32) (ix2 q l) = (data m c).db q (col ⟨n, h⟩ l)

/-- It holds after the first point; -/
theorem after_first (t : Fin cfg0.N) (ht : t.val = 0) : After m c t.val t.isLt where
  pb i q := by rw [pb_first m c t (by omega) (by omega)]; exact pb_eq m c t i q
  g i q := by
    rw [g_first m c t (by omega) (by omega), gStep_eq m c t _ (pb_eq m c t), gZero_apply, zero_add, upTo_first _ t ht]
  lsum i z := by
    rw [lsum_first m c t (by omega) (by omega), lsumStep_eq m c t _ (pb_eq m c t), lsumZero_apply, zero_add, upTo_first _ t ht]
  db q l := by rw [db_first m c t (by omega) (by omega)]; exact dbTile_eq m c t _ (pb_eq m c t) q l

/-- every later point carries it on; -/
theorem after_step (t : Fin cfg0.N) (ht : t.val ≠ 0)
    (h : After m c (t.val - 1) (Nat.lt_of_le_of_lt (Nat.sub_le _ _) t.isLt)) : After m c t.val t.isLt := by
  have hN : t.val < 20 := lt_of_lt_of_eq t.isLt N_0
  have h0 : ¬t.val % 20 = 0 := by omega
  by_cases h1 : t.val % 20 = 19
  · exact
    { pb := fun i q => by rw [pb_last m c t h0 h1]; exact h.pb i q
      g := fun i q => by rw [g_last m c t h0 h1, gStep_eq m c t _ h.pb, h.g, upTo_step _ t ht]
      lsum := fun i z => by rw [lsum_last m c t h0 h1, lsumStep_eq m c t _ h.pb, h.lsum, upTo_step _ t ht]
      db := fun q l => by rw [db_last m c t h0 h1]; exact dbTile_eq m c t _ h.pb q l }
  · exact
    { pb := fun i q => by rw [pb_middle m c t h0 h1]; exact h.pb i q
      g := fun i q => by rw [g_middle m c t h0 h1, gStep_eq m c t _ h.pb, h.g, upTo_step _ t ht]
      lsum := fun i z => by rw [lsum_middle m c t h0 h1, lsumStep_eq m c t _ h.pb, h.lsum, upTo_step _ t ht]
      db := fun q l => by rw [db_middle m c t h0 h1]; exact dbTile_eq m c t _ h.pb q l }

/-- so it holds after every point. -/
theorem after : ∀ (n : ℕ) (h : n < cfg0.N), After m c n h
  | 0, h => after_first m c ⟨0, h⟩ rfl
  | n + 1, h => after_step m c ⟨n + 1, h⟩ (Nat.succ_ne_zero n) (after n (Nat.lt_of_succ_lt h))

/-! ## The results -/

/-- The last point is in the grid. -/
theorem last_lt : 19 < cfg0.N := lt_of_lt_of_eq (by norm_num) N_0.symm

/-- The finished `g`. -/
theorem final_g (i : Fin 256) (q : Fin 48) :
    ((outsAt0 m c 19 last_lt).2.1 : FVec Ideal S256x48 .f32) (ix2 i q) = (data m c).g i q := by
  rw [(after m c 19 last_lt).g, upTo_last]
  unfold Inputs.g
  rw [sum_tiles]
  rfl

/-- The finished loss. -/
theorem final_loss (i : Fin 256) (z : Fin 1) :
    ((outsAt0 m c 19 last_lt).1 : FVec Ideal S256x1 .f32) (ix2 i z) = (data m c).loss i := by
  rw [show (outsAt0 m c 19 last_lt).1 = _ from loss_last m c ⟨19, last_lt⟩ (by norm_num) rfl, loss_apply]
  unfold Inputs.loss
  rw [sum_tiles]
  simp only [sum_lanes]
  rw [Finset.sum_comm]
  refine Finset.sum_congr rfl fun l _ => ?_
  rw [show ((outsAt0 m c 19 last_lt).2.2.2.2.2 : FVec Ideal S256x128 .f32) (ix2 i l) = _ from (after m c 19 last_lt).lsum i l, upTo_last]
  rfl

/-- The finished `d_a`. -/
theorem final_da (k : Fin 2560) (q : Fin 48) :
    ((outsAt0 m c 19 last_lt).2.2.1 : FVec Ideal S2560x48 .f32) (ix2 k q) = (data m c).da k q := by
  rw [show (outsAt0 m c 19 last_lt).2.2.1 = _ from da_last m c ⟨19, last_lt⟩ (by norm_num) rfl, da_apply]
  unfold Inputs.da
  refine congrArg (minusTwo * ·) (Finset.sum_congr rfl fun i _ => ?_)
  rw [iblk0_apply]
  exact congrArg (fun e : EReal => (data m c).x i k * e) (final_g m c i q)

end Cert.Fit
-- ==== Proof.Results.lean ====
/-
  The kernel's four result arrays at an element: the mathematics of `Formula`.
-/
module

public import proofs.«01_k».proof.Proof.Sweep

@[expose] public section

set_option maxRecDepth 16384

noncomputable section

namespace Cert.Fit

open Idealize.ShloMosaic Idealize.SL.Sem Cert.KernelIdeal Cert.KernelIdeal.Gen

variable (m : (ℓ : Loc nD τ sig) → Buf (Elt Ideal) ℓ) (c : Dev nD)

/-- The loss array. -/
theorem kernel_loss (i : Fin 256) (z : Fin 1) :
    (Value.G6 (F := Ideal) m c : FVec Ideal S256x1 .f32) (ix2 i z) = (data m c).loss i := by
  rw [Value.G6_last, ← Value.outsAt0_sweep m c 19 last_lt]
  exact final_loss m c i z

/-- The array of `g`. -/
theorem kernel_g (i : Fin 256) (q : Fin 48) :
    (Value.G7 (F := Ideal) m c : FVec Ideal S256x48 .f32) (ix2 i q) = (data m c).g i q := by
  rw [Value.G7_last, ← Value.outsAt0_sweep m c 19 last_lt]
  exact final_g m c i q

/-- The array of `d_a`. -/
theorem kernel_da (k : Fin 2560) (q : Fin 48) :
    (Value.G8 (F := Ideal) m c : FVec Ideal S2560x48 .f32) (ix2 k q) = (data m c).da k q := by
  rw [Value.G8_last, ← Value.outsAt0_sweep m c 19 last_lt]
  exact final_da m c k q

/-- The array of `d_b`: column `n` was written by point `n / 512`. -/
theorem kernel_db (q : Fin 48) (n : Fin 10240) :
    (Value.G9 (F := Ideal) m c : FVec Ideal S48x10240 .f32) (ix2 q n) = (data m c).db q n := by
  have hp : Value.pt9Of (ix2 q n) = n.val / 512 := by
    show 20 * (q.val / 48 - 0) + 1 * (n.val / 512 - 0) = n.val / 512
    omega
  have hN : cfg0.N = 20 := N_0
  have ht : Value.pt9Of (ix2 q n) < cfg0.N := by rw [hp, hN]; omega
  have hl : Value.loc9Of (ix2 q n) = ix2 q (⟨n.val % 512, Nat.mod_lt _ (by norm_num)⟩ : Fin 512) := by
    funext a
    match a with
    | 0 => exact Fin.ext (Nat.mod_eq_of_lt q.isLt)
    | 1 => rfl
  have hc : col ⟨Value.pt9Of (ix2 q n), ht⟩ ⟨n.val % 512, Nat.mod_lt _ (by norm_num)⟩ = n := Fin.ext (by
    show 512 * Value.pt9Of (ix2 q n) + n.val % 512 = n.val
    rw [hp]; omega)
  unfold Value.G9
  rw [dif_pos ht, ← Value.outsAt0_sweep m c _ ht, hl]
  refine ((after m c _ ht).db q _).trans ?_
  rw [hc]

end Cert.Fit
-- ==== Proof.Reference.lean ====
/-
  The reference's results at an element: the same mathematics, the tokens of the two sequences in one row.
-/
module

public import proofs.«01_k».proof.Proof.Formula
public import proofs.«01_k».proof.Proof.Gen.ReferenceIdeal.Read
public import Idealize.ShloMosaic.Lib.Pointwise

@[expose] public section

set_option maxRecDepth 16384

noncomputable section

namespace Cert.Fit

open Idealize.ShloMosaic Cert.ReferenceIdeal Cert.ReferenceIdeal.Gen Cert.ReferenceIdeal.Read

variable (x : FVec Ideal S2x128x2560 .bf16) (w : FVec Ideal S2560x10240 .bf16) (c : IVec S1280x10240 8)
  (s : FVec Ideal S20x10240 .bf16) (a : FVec Ideal S2560x48 .bf16) (b : FVec Ideal S48x10240 .bf16)

/-- Position `v` of sequence `u` in the row of tokens. -/
def token (u : Fin 2) (v : Fin 128) : Fin 256 := ⟨128 * u.val + v.val, by omega⟩

/-- The activation at position `v` of sequence `u` is the token's. -/
theorem x_token (u : Fin 2) (v : Fin 128) (k : Fin 2560) : (inputs x w c s a b).x (token u v) k = x (ix3 u v k) := by
  have h1 : (⟨(token u v).val / 128, by omega⟩ : Fin 2) = u := Fin.ext (by show (128 * u.val + v.val) / 128 = u.val; omega)
  have h2 : (⟨(token u v).val % 128, by omega⟩ : Fin 128) = v := Fin.ext (by show (128 * u.val + v.val) % 128 = v.val; omega)
  show x (ix3 (⟨(token u v).val / 128, _⟩ : Fin 2) (⟨(token u v).val % 128, _⟩ : Fin 128) k) = _
  rw [h1, h2]

/-- The quantisation error of the upper half of the rows, whose codes are the bytes' low nibbles. -/
theorem ref_errLow (k : Fin 1280) (n : Fin 10240) :
    (val_main_v21 (F := Ideal) w c s : FVec Ideal S1280x10240 .bf16) (ix2 k n)
      = errLow (fun k => w (ix2 k n)) (fun k => c (ix2 k n)) (fun g => s (ix2 g n)) k := by
  pointwise [val_main_v21, val_main_v20, val_main_v19, val_main_v18, val_main_v17, val_main_v16, val_main_v15, val_main_v6,
    val_main_v5, val_main_c_1, val_main_v4, val_main_v3, val_main_c_0, val_main_v2, val_main_v1, val_main_c, val_main_v0,
    errLow, lowCode]
  rfl

/-- The quantisation error of the lower half, whose codes are the high nibbles. -/
theorem ref_errHigh (k : Fin 1280) (n : Fin 10240) :
    (val_main_v28 (F := Ideal) w c s : FVec Ideal S1280x10240 .bf16) (ix2 k n)
      = errHigh (fun k => w (ix2 k n)) (fun k => c (ix2 k n)) (fun g => s (ix2 g n)) k := by
  pointwise [val_main_v28, val_main_v27, val_main_v26, val_main_v25, val_main_v24, val_main_v23, val_main_v22, val_main_v14,
    val_main_v13, val_main_c_5, val_main_v12, val_main_v11, val_main_c_4, val_main_v10, val_main_v9, val_main_c_3, val_main_v8,
    val_main_v7, val_main_c_2, val_main_v0, errHigh, highCode]
  rfl

/-- The activations through the left factor. -/
theorem ref_pb (u : Fin 2) (v : Fin 128) (q : Fin 48) :
    (val_main_v35 (F := Ideal) x a : FVec Ideal S2x128x48 .bf16) (ix3 u v q) = (inputs x w c s a b).pb (token u v) q := by
  unfold Inputs.pb
  simp only [x_token]
  pointwise [val_main_v35, val_main_v34]
  rfl

/-- The residual. -/
theorem ref_r (u : Fin 2) (v : Fin 128) (n : Fin 10240) :
    (val_main_v37 (F := Ideal) x w c s a b : FVec Ideal S2x128x10240 .f32) (ix3 u v n) = (inputs x w c s a b).r (token u v) n := by
  unfold Inputs.r resid
  simp only [x_token]
  pointwise [val_main_v37, val_main_v36, val_main_v33, val_main_v32, val_main_v31, val_main_v30, val_main_v29]
  simp only [ref_errLow, ref_errHigh, ref_pb x w c s a b]
  rfl

/-- The residual rounded is the residual: rounding is the identity here. -/
theorem ref_rb (u : Fin 2) (v : Fin 128) (n : Fin 10240) :
    (val_main_v40 (F := Ideal) x w c s a b : FVec Ideal S2x128x10240 .bf16) (ix3 u v n) = (inputs x w c s a b).r (token u v) n :=
  ref_r x w c s a b u v n

/-- The residual through the right factor. -/
theorem ref_g3 (u : Fin 2) (v : Fin 128) (q : Fin 48) :
    (val_main_v41 (F := Ideal) x w c s a b : FVec Ideal S2x128x48 .f32) (ix3 u v q) = (inputs x w c s a b).g (token u v) q := by
  unfold Inputs.g
  pointwise [val_main_v41]
  simp only [ref_rb]
  rfl

/-- A row of tokens is its sequence and position. -/
theorem token_split (i : Fin 256) : token ⟨i.val / 128, by omega⟩ ⟨i.val % 128, by omega⟩ = i :=
  Fin.ext (by show 128 * (i.val / 128) + i.val % 128 = i.val; omega)

/-- The reference's loss. -/
theorem ref_loss (i : Fin 256) (z : Fin 1) :
    (val_main_v49 (F := Ideal) x w c s a b : FVec Ideal S256x1 .f32) (ix2 i z) = (inputs x w c s a b).loss i := by
  unfold Inputs.loss
  pointwise [val_main_v49, val_main_v39, val_main_v38, val_main_cst]
  simp only [ref_r, token_split]

/-- The reference's `g`. -/
theorem ref_g (i : Fin 256) (q : Fin 48) :
    (val_main_v50 (F := Ideal) x w c s a b : FVec Ideal S256x48 .f32) (ix2 i q) = (inputs x w c s a b).g i q := by
  pointwise [val_main_v50]
  simp only [ref_g3, token_split]

/-- The reference's `d_a`. -/
theorem ref_da (k : Fin 2560) (q : Fin 48) :
    (val_main_v45 (F := Ideal) x w c s a b : FVec Ideal S2560x48 .f32) (ix2 k q) = (inputs x w c s a b).da k q := by
  unfold Inputs.da
  rw [sum_tokens]
  pointwise [val_main_v45, val_main_v44, val_main_cst_6, val_main_v43, val_main_v42]
  simp only [ref_g3, ← x_token x w c s a b]
  rfl

/-- The reference's `d_b`. -/
theorem ref_db (q : Fin 48) (n : Fin 10240) :
    (val_main_v48 (F := Ideal) x w c s a b : FVec Ideal S48x10240 .f32) (ix2 q n) = (inputs x w c s a b).db q n := by
  unfold Inputs.db
  rw [sum_tokens]
  pointwise [val_main_v48, val_main_v47, val_main_cst_7, val_main_v46]
  simp only [ref_rb, ref_pb x w c s a b]
  rfl

end Cert.Fit
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Results
public import proofs.«01_k».proof.Proof.Reference
public import Idealize.ShloMosaic.Adequacy
public import Idealize.ShloMosaic.Init

@[expose] public section

noncomputable section

namespace Cert.Proof

open Idealize.ShloMosaic Idealize.SL.Sem Cert.Fit

/-- The reference runs, leaves its arguments alone and has no semaphore to leave raised. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- A two-axis array is known by its elements. -/
theorem ext2 {α : Type} {h w : ℕ} {f g : (⟨2, ![h, w]⟩ : Shape).Idx → α} (e : ∀ (i : Fin h) (j : Fin w), f (ix2 i j) = g (ix2 i j)) : f = g := by
  funext i
  rw [eq_ix2 i]
  exact e _ _

/-- Over the extended reals the kernel and the reference end with equal results, all four of them. -/
theorem algebraic : Cert.algebraic_KernelIdeal_ReferenceIdeal := by
  intro m ρ m' ρ' _ hagree
  refine ⟨fun c => Cert.KernelIdeal.Value.G6 m c, fun c => Cert.KernelIdeal.Value.G7 m c, fun c => Cert.KernelIdeal.Value.G8 m c,
    fun c => Cert.KernelIdeal.Value.G9 m c, Cert.KernelIdeal.Value.run (F := Ideal) m ρ, ?_⟩
  refine (θ_run Cert.ReferenceIdeal.defs _ _).mono (fun _ h c => ?_) (Cert.ReferenceIdeal.Value.run (F := Ideal) m' ρ')
  obtain ⟨h0, h1, h2, h3, h4, h5⟩ := hagree c
  have hd : data m c = inputs
      (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3))
      (m' (c.tc.loc Cert.ReferenceIdeal.main_arg4)) (m' (c.tc.loc Cert.ReferenceIdeal.main_arg5)) := by
    rw [h0, h1, h2, h3, h4, h5]
    rfl
  refine ⟨(h c).1.trans ?_, (h c).2.1.trans ?_, (h c).2.2.1.trans ?_, (h c).2.2.2.1.trans ?_, (h c).2.2.2.2⟩
  · rw [Cert.ReferenceIdeal.Read.val_main_v49_eq]
    exact ext2 fun i z => ((ref_loss _ _ _ _ _ _ i z).trans (by rw [hd])).trans (kernel_loss m c i z).symm
  · rw [Cert.ReferenceIdeal.Read.val_main_v50_eq]
    exact ext2 fun i q => ((ref_g _ _ _ _ _ _ i q).trans (by rw [hd])).trans (kernel_g m c i q).symm
  · rw [Cert.ReferenceIdeal.Read.val_main_v45_eq]
    exact ext2 fun k q => ((ref_da _ _ _ _ _ _ k q).trans (by rw [hd])).trans (kernel_da m c k q).symm
  · rw [Cert.ReferenceIdeal.Read.val_main_v48_eq]
    exact ext2 fun q n => ((ref_db _ _ _ _ _ _ q n).trans (by rw [hd])).trans (kernel_db m c q n).symm

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
